-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v63_1)) (v2 : (c : Dev Cert.KernelIdeal.nD) → Buf (Elt Ideal) ((c.tc : Thread Cert.KernelIdeal.nD Cert.KernelIdeal.τ).loc Cert.KernelIdeal.main_v63_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_v63_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x128x64x64 : Shape := ⟨4, ![8, 128, 64, 64]⟩
abbrev S256x128x3x3 : Shape := ⟨4, ![256, 128, 3, 3]⟩
abbrev S256 : Shape := ⟨1, ![256]⟩
abbrev S65x256x1x1 : Shape := ⟨4, ![65, 256, 1, 1]⟩
abbrev S65 : Shape := ⟨1, ![65]⟩
abbrev S_ : Shape := ⟨0, ![]⟩

class Facts : Prop where
  bcast_S_S8x128x64x64 : S_.BroadcastsInDim S8x128x64x64 (![] : Fin 0 → Fin S8x128x64x64.rank)
  reducesTo_S8x128x64x64_S_d0_1_2_3 : S8x128x64x64.ReducesTo [0, 1, 2, 3] S_
  h_S_ : 0 < S_.numel
  bcast_S_S256x128x3x3 : S_.BroadcastsInDim S256x128x3x3 (![] : Fin 0 → Fin S256x128x3x3.rank)
  reducesTo_S256x128x3x3_S_d0_1_2_3 : S256x128x3x3.ReducesTo [0, 1, 2, 3] S_
  bcast_S_S256 : S_.BroadcastsInDim S256 (![] : Fin 0 → Fin S256.rank)
  reducesTo_S256_S_d0 : S256.ReducesTo [0] S_
  bcast_S_S65x256x1x1 : S_.BroadcastsInDim S65x256x1x1 (![] : Fin 0 → Fin S65x256x1x1.rank)
  reducesTo_S65x256x1x1_S_d0_1_2_3 : S65x256x1x1.ReducesTo [0, 1, 2, 3] S_
  bcast_S_S65 : S_.BroadcastsInDim S65 (![] : Fin 0 → Fin S65.rank)
  reducesTo_S65_S_d0 : S65.ReducesTo [0] S_

variable [Facts]

def fn_part2 {F : FTy → Type} [FloatOps F] (main_arg7 : FVec F S65 .f32) (main_v33 : IVec S_ 1) : IVec S_ 1 :=
  let main_v34 : FVec F S65 .f32 := Host.absf main_arg7
  let main_cst_12 : FVec F S_ .f32 := constant S_ .f32 0x7F800000#32
  let main_v35 : FVec F S65 .f32 := broadcastInDim S65 ![] bcast_S_S65 main_cst_12
  let main_v36 : IVec S65 1 := cmpf .olt main_v34 main_v35
  let main_c_13 : IVec S_ 1 := constantI S_ 1 1#1
  let main_v37 : IVec S_ 1 := (fun x v => Host.reduce IntOp.andi x v reducesTo_S65_S_d0 h_S_) main_v36 main_c_13
  let main_v38 : IVec S_ 1 := andi main_v33 main_v37
  main_v38

def fn_part1 {F : FTy → Type} [FloatOps F] (main_arg4 : FVec F S256 .f32) (main_arg5 : FVec F S65x256x1x1 .f32) (main_arg6 : FVec F S65 .f32) (main_arg7 : FVec F S65 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S65x256x1x1 .f32 := Host.absf main_arg5
  let main_cst_8 : FVec F S_ .f32 := constant S_ .f32 0x7F800000#32
  let main_v25 : FVec F S65x256x1x1 .f32 := broadcastInDim S65x256x1x1 ![] bcast_S_S65x256x1x1 main_cst_8
  let main_v26 : IVec S65x256x1x1 1 := cmpf .olt main_v24 main_v25
  let main_c_9 : IVec S_ 1 := constantI S_ 1 1#1
  let main_v27 : IVec S_ 1 := (fun x v => Host.reduce IntOp.andi x v reducesTo_S65x256x1x1_S_d0_1_2_3 h_S_) main_v26 main_c_9
  let main_v28 : IVec S_ 1 := andi main_v23 main_v27
  let main_v29 : FVec F S65 .f32 := Host.absf main_arg6
  let main_cst_10 : FVec F S_ .f32 := constant S_ .f32 0x7F800000#32
  let main_v30 : FVec F S65 .f32 := broadcastInDim S65 ![] bcast_S_S65 main_cst_10
  let main_v31 : IVec S65 1 := cmpf .olt main_v29 main_v30
  let main_c_11 : IVec S_ 1 := constantI S_ 1 1#1
  let main_v32 : IVec S_ 1 := (fun x v => Host.reduce IntOp.andi x v reducesTo_S65_S_d0 h_S_) main_v31 main_c_11
  let main_v33 : IVec S_ 1 := andi main_v28 main_v32
  fn_part2 (F := F) main_arg7 main_v33

def fn {F : FTy → Type} [FloatOps F] (main_arg0 : FVec F S8x128x64x64 .f32) (main_arg1 : FVec F S256x128x3x3 .f32) (main_arg2 : FVec F S256 .f32) (main_arg3 : FVec F S256 .f32) (main_arg4 : FVec F S256 .f32) (main_arg5 : FVec F S65x256x1x1 .f32) (main_arg6 : FVec F S65 .f32) (main_arg7 : FVec F S65 .f32) (main_arg8 : FVec F S65 .f32) : IVec S_ 1 :=
  let main_v0 : FVec F S8x128x64x64 .f32 := Host.absf main_arg0
  let main_cst : FVec F S_ .f32 := constant S_ .f32 0x7F800000#32
  let main_v1 : FVec F S8x128x64x64 .f32 := broadcastInDim S8x128x64x64 ![] bcast_S_S8x128x64x64 main_cst
  let main_v2 : IVec S8x128x64x64 1 := cmpf .olt main_v0 main_v1
  let main_c : IVec S_ 1 := constantI S_ 1 1#1
  let main_v3 : IVec S_ 1 := (fun x v => Host.reduce IntOp.andi x v reducesTo_S8x128x64x64_S_d0_1_2_3 h_S_) main_v2 main_c
  let main_v4 : FVec F S256x128x3x3 .f32 := Host.absf main_arg1
  let main_cst_0 : FVec F S_ .f32 := constant S_ .f32 0x7F800000#32
  let main_v5 : FVec F S256x128x3x3 .f32 := broadcastInDim S256x128x3x3 ![] bcast_S_S256x128x3x3 main_cst_0
  let main_v6 : IVec S256x128x3x3 1 := cmpf .olt main_v4 main_v5
  let main_c_1 : IVec S_ 1 := constantI S_ 1 1#1
  let main_v7 : IVec S_ 1 := (fun x v => Host.reduce IntOp.andi x v reducesTo_S256x128x3x3_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S8x128x64x64 : Shape := ⟨4, ![8, 128, 64, 64]⟩
abbrev S256x128x3x3 : Shape := ⟨4, ![256, 128, 3, 3]⟩
abbrev S256 : Shape := ⟨1, ![256]⟩
abbrev S65x256x1x1 : Shape := ⟨4, ![65, 256, 1, 1]⟩
abbrev S65 : Shape := ⟨1, ![65]⟩
abbrev S8x64x64x128 : Shape := ⟨4, ![8, 64, 64, 128]⟩
abbrev S_ : Shape := ⟨0, ![]⟩
abbrev S8x66x66x128 : Shape := ⟨4, ![8, 66, 66, 128]⟩
abbrev S3x3x128x256 : Shape := ⟨4, ![3, 3, 128, 256]⟩
abbrev S9x128x256 : Shape := ⟨3, ![9, 128, 256]⟩
abbrev S8x4096x256 : Shape := ⟨3, ![8, 4096, 256]⟩
abbrev S8x2x256 : Shape := ⟨3, ![8, 2, 256]⟩
abbrev S1x66x66x128 : Shape := ⟨4, ![1, 66, 66, 128]⟩
abbrev S1x4096x256 : Shape := ⟨3, ![1, 4096, 256]⟩
abbrev S1x2x256 : Shape := ⟨3, ![1, 2, 256]⟩
abbrev S4096x256 : Shape := ⟨2, ![4096, 256]⟩
abbrev S1x64x64x128 : Shape := ⟨4, ![1, 64, 64, 128]⟩
abbrev S64x64x128 : Shape := ⟨3, ![64, 64, 128]⟩
abbrev S4096x128 : Shape := ⟨2, ![4096, 128]⟩
abbrev S1x128x256 : Shape := ⟨3, ![1, 128, 256]⟩
abbrev S128x256 : Shape := ⟨2, ![128, 256]⟩
abbrev S1x1x256 : Shape := ⟨3, ![1, 1, 256]⟩
abbrev S8x1x256 : Shape := ⟨3, ![8, 1, 256]⟩
abbrev S8x256 : Shape := ⟨2, ![8, 256]⟩
abbrev S1x256 : Shape := ⟨2, ![1, 256]⟩
abbrev S2x256 : Shape := ⟨2, ![2, 256]⟩
abbrev S256x128 : Shape := ⟨2, ![256, 128]⟩
abbrev S65x256 : Shape := ⟨2, ![65, 256]⟩
abbrev S256x65 : Shape := ⟨2, ![256, 65]⟩
abbrev S1 : Shape := ⟨1, ![1]⟩
abbrev S8x4096x128 : Shape := ⟨3, ![8, 4096, 128]⟩
abbrev S8x2x128 : Shape := ⟨3, ![8, 2, 128]⟩
abbrev S1x4096x128 : Shape := ⟨3, ![1, 4096, 128]⟩
abbrev S1x2x128 : Shape := ⟨3, ![1, 2, 128]⟩
abbrev S128 : Shape := ⟨1, ![128]⟩
abbrev S1x1x128 : Shape := ⟨3, ![1, 1, 128]⟩
abbrev S8x1x128 : Shape := ⟨3, ![8, 1, 128]⟩
abbrev S8x128 : Shape := ⟨2, ![8, 128]⟩
abbrev S1x128 : Shape := ⟨2, ![1, 128]⟩
abbrev S2x128 : Shape := ⟨2, ![2, 128]⟩
abbrev S8x65x4096 : Shape := ⟨3, ![8, 65, 4096]⟩
abbrev S8x512x512 : Shape := ⟨3, ![8, 512, 512]⟩
abbrev S1x65x4096 : Shape := ⟨3, ![1, 65, 4096]⟩
abbrev S1x512x512 : Shape := ⟨3, ![1, 512, 512]⟩
abbrev S128x4096 : Shape := ⟨2, ![128, 4096]⟩
abbrev S65x4096 : Shape := ⟨2, ![65, 4096]⟩
abbrev S4096x64 : Shape := ⟨2, ![4096, 64]⟩
abbrev S64x64x8x8 : Shape := ⟨4, ![64, 64, 8, 8]⟩
abbrev S64x8x64x8 : Shape := ⟨4, ![64, 8, 64, 8]⟩
abbrev S512x512 : Shape := ⟨2, ![512, 512]⟩
abbrev S8x65x64x64 : Shape := ⟨4, ![8, 65, 64, 64]⟩

abbrev nBuf : Space → Nat
  | .hbm => 103
  | .vmem => 24
  | .smem => 0
  | _ => 0

abbrev bufTy : (tb : Table) → Fin (tcTables nBuf tb) → BufTy
  | .hbm, ⟨0, _⟩ => ⟨S8x128x64x64, .f32⟩
  | .hbm, ⟨1, _⟩ => ⟨S256x128x3x3, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S65x256x1x1, .f32⟩
  | .hbm, ⟨6, _⟩ => ⟨S65, .f32⟩
  | .hbm, ⟨7, _⟩ => ⟨S65, .f32⟩
  | .hbm, ⟨8, _⟩ => ⟨S65, .f32⟩
  | .hbm, ⟨9, _⟩ => ⟨S8x64x64x128, .f32⟩
  | .hbm, ⟨10, _⟩ => ⟨S8x64x64x128, .bf16⟩
  | .hbm, ⟨11, _⟩ => ⟨S_, .i32⟩
  | .hbm, ⟨12, _⟩ => ⟨S_, .bf16⟩
  | .hbm, ⟨13, _⟩ => ⟨S8x66x66x128, .bf16⟩
  | .hbm, ⟨14, _⟩ => ⟨S3x3x128x256, .f32⟩
  | .hbm, ⟨15, _⟩ => ⟨S9x128x256, .f32⟩
  | .hbm, ⟨16, _⟩ => ⟨S9x128x256, .bf16⟩
  | .hbm, ⟨17, _⟩ => ⟨S8x4096x256, .f32⟩
  | .hbm, ⟨18, _⟩ => ⟨S8x2x256, .f32⟩
  | .hbm, ⟨19, _⟩ => ⟨S8x1x256, .f32⟩
  | .hbm, ⟨20, _⟩ => ⟨S8x256, .f32⟩
  | .hbm, ⟨21, _⟩ => ⟨S_, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S8x1x256, .f32⟩
  | .hbm, ⟨27, _⟩ => ⟨S8x256, .f32⟩
  | .hbm, ⟨28, _⟩ => ⟨S_, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S1x256, .f32⟩
  | .hbm, ⟨43, _⟩ => ⟨S1x256, .f32⟩
  | .hbm, ⟨44, _⟩ => ⟨S2x256, .f32⟩
  | .hbm, ⟨45, _⟩ => ⟨S_, .f32⟩
  | .hbm, ⟨46, _⟩ => ⟨S256x128, .f32⟩
  | .hbm, ⟨47, _⟩ => ⟨S65x256, .f32⟩
  | .hbm, ⟨48, _⟩ => ⟨S256x65, .f32⟩
  | .hbm, ⟨49, _⟩ => ⟨S_, .i32⟩
  | .hbm, ⟨50, _⟩ => ⟨S1, .i32⟩
  | .hbm, ⟨51, _⟩ => ⟨S256x128, .f32⟩
  | .hbm, ⟨52, _⟩ => ⟨S256x128, .bf16⟩
  | .hbm, ⟨53, _⟩ => ⟨S8x4096x128, .f32⟩
  | .hbm, ⟨54, _⟩ => ⟨S8x2x128, .f32⟩
  | .hbm, ⟨55, _⟩ => ⟨S8x1x128, .f32⟩
  | .hbm, ⟨56, _⟩ => ⟨S8x128, .f32⟩
  | .hbm, ⟨57, _⟩ => ⟨S_, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S8x1x128, .f32⟩
  | .hbm, ⟨63, _⟩ => ⟨S8x128, .f32⟩
  | .hbm, ⟨64, _⟩ => ⟨S_, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S128, .i32⟩
  | .hbm, ⟨72, _⟩ => ⟨S_, .i32⟩
  | .hbm, ⟨73, _⟩ => ⟨S128, .i32⟩
  | .hbm, ⟨74, _⟩ => ⟨S128, .i1⟩
  | .hbm, ⟨75, _⟩ => ⟨S_, .i32⟩
  | .hbm, ⟨76, _⟩ => ⟨S_, .f32⟩
  | .hbm, ⟨77, _⟩ => ⟨S128, .f32⟩
  | .hbm, ⟨78, _⟩ => ⟨S_, .i32⟩
  | .hbm, ⟨79, _⟩ => ⟨S_, .f32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S_, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S_, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S1x128, .f32⟩
  | .hbm, ⟨97, _⟩ => ⟨S1x128, .f32⟩
  | .hbm, ⟨98, _⟩ => ⟨S2x128, .f32⟩
  | .hbm, ⟨99, _⟩ => ⟨S8x65x4096, .f32⟩
  | .hbm, ⟨100, _⟩ => ⟨S8x512x512, .f32⟩
  | .hbm, ⟨101, _⟩ => ⟨S8x512x512, .i32⟩
  | .hbm, ⟨102, _⟩ => ⟨S8x65x64x64, .f32⟩
  | .local _ .vmem, ⟨0, _⟩ => ⟨S1x66x66x128, .bf16⟩
  | .local _ .vmem, ⟨1, _⟩ => ⟨S1x66x66x128, .bf16⟩
  | .local _ .vmem, ⟨2, _⟩ => ⟨S9x128x256, .bf16⟩
  | .local _ .vmem, ⟨3, _⟩ => ⟨S1x4096x256, .f32⟩
  | .local _ .vmem, ⟨4, _⟩ => ⟨S1x4096x256, .f32⟩
  | .local _ .vmem, ⟨5, _⟩ => ⟨S1x2x256, .f32⟩
  | .local _ .vmem, ⟨6, _⟩ => ⟨S1x2x256, .f32⟩
  | .local _ .vmem, ⟨7, _⟩ => ⟨S1x4096x256, .f32⟩
  | .local _ .vmem, ⟨8, _⟩ => ⟨S1x4096x256, .f32⟩
  | .local _ .vmem, ⟨9, _⟩ => ⟨S2x256, .f32⟩
  | .local _ .vmem, ⟨10, _⟩ => ⟨S256x128, .bf16⟩
  | .local _ .vmem, ⟨11, _⟩ => ⟨S1x4096x128, .f32⟩
  | .local _ .vmem, ⟨12, _⟩ => ⟨S1x4096x128, .f32⟩
  | .local _ .vmem, ⟨13, _⟩ => ⟨S1x2x128, .f32⟩
  | .local _ .vmem, ⟨14, _⟩ => ⟨S1x2x128, .f32⟩
  | .local _ .vmem, ⟨15, _⟩ => ⟨S1x4096x128, .f32⟩
  | .local _ .vmem, ⟨16, _⟩ => ⟨S1x4096x128, .f32⟩
  | .local _ .vmem, ⟨17, _⟩ => ⟨S2x128, .f32⟩
  | .local _ .vmem, ⟨18, _⟩ => ⟨S1x65x4096, .f32⟩
  | .local _ .vmem, ⟨19, _⟩ => ⟨S1x65x4096, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .i32⟩
  | .local _ .vmem, ⟨23, _⟩ => ⟨S1x512x512, .i32⟩
  | _, _ => ⟨S8x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34_0 : Ref sig .tc := ⟨.hbm, 53, rfl⟩
abbrev main_v34_1 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_call1_v0 : Ref sig .tc := ⟨.hbm, 76, rfl⟩
abbrev main_v50 : Ref sig .tc := ⟨.hbm, 77, rfl⟩
abbrev main_c_12 : Ref sig .tc := ⟨.hbm, 78, rfl⟩
abbrev main_call2_v0 : Ref sig .tc := ⟨.hbm, 79, rfl⟩
abbrev main_v51 : Ref sig .tc := ⟨.hbm, 80, rfl⟩
abbrev main_cst_13 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_14 : Ref sig .tc := ⟨.hbm, 86, rfl⟩
abbrev main_call3_v0 : Ref sig .tc := ⟨.hbm, 87, rfl⟩
abbrev main_call3_v1 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_15 : Ref sig .tc := ⟨.hbm, 92, rfl⟩
abbrev main_call4_v0 : Ref sig .tc := ⟨.hbm, 93, rfl⟩
abbrev main_call4_v1 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63_0 : Ref sig .tc := ⟨.hbm, 99, rfl⟩
abbrev main_v63_1 : Ref sig .tc := ⟨.hbm, 100, rfl⟩
abbrev main_v63_2 : Ref sig .tc := ⟨.hbm, 101, rfl⟩
abbrev main_v64 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x66x66x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x65x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x512x512 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S8x128x64x64 : Shape := ⟨4, ![8, 128, 64, 64]⟩
abbrev S256x128x3x3 : Shape := ⟨4, ![256, 128, 3, 3]⟩
abbrev S256 : Shape := ⟨1, ![256]⟩
abbrev S65x256x1x1 : Shape := ⟨4, ![65, 256, 1, 1]⟩
abbrev S65 : Shape := ⟨1, ![65]⟩
abbrev S_ : Shape := ⟨0, ![]⟩
abbrev S8x128x66x66 : Shape := ⟨4, ![8, 128, 66, 66]⟩
abbrev S8x128x1x64x64 : Shape := ⟨5, ![8, 128, 1, 64, 64]⟩
abbrev S8x128x9x64x64 : Shape := ⟨5, ![8, 128, 9, 64, 64]⟩
abbrev S256x128x9 : Shape := ⟨3, ![256, 128, 9]⟩
abbrev S256x8x64x64 : Shape := ⟨4, ![256, 8, 64, 64]⟩
abbrev S8x256x64x64 : Shape := ⟨4, ![8, 256, 64, 64]⟩
abbrev S1x256x1x1 : Shape := ⟨4, ![1, 256, 1, 1]⟩
abbrev S65x256 : Shape := ⟨2, ![65, 256]⟩
abbrev S65x8x64x64 : Shape := ⟨4, ![65, 8, 64, 64]⟩
abbrev S8x65x64x64 : Shape := ⟨4, ![8, 65, 64, 64]⟩
abbrev S1x65x1x1 : Shape := ⟨4, ![1, 65, 1, 1]⟩
abbrev S8x64x64x64 : Shape := ⟨4, ![8, 64, 64, 64]⟩
abbrev S8x1x8x8x64x64 : Shape := ⟨6, ![8, 1, 8, 8, 64, 64]⟩
abbrev S8x1x64x8x64x8 : Shape := ⟨6, ![8, 1, 64, 8, 64, 8]⟩
abbrev S8x1x512x512 : Shape := ⟨4, ![8, 1, 512, 512]⟩
abbrev S8x512x512 : Shape := ⟨3, ![8, 512, 512]⟩

abbrev nBuf : Space → Nat
  | .hbm => 143
  | .vmem => 0
  | .smem => 0
  | _ => 0

abbrev hbmTy0_0 (i : Nat) : BufTy := match i % 128 with
  | 0 => ⟨S8x128x64x64, .f32⟩
  | 1 => ⟨S256x128x3x3, .f32⟩
  | 2 => ⟨S256, .f32⟩
  | 3 => ⟨S256, .f32⟩
  | 4 => ⟨S256, .f32⟩
  | 5 => ⟨S65x256x1x1, .f32⟩
  | 6 => ⟨S65, .f32⟩
  | 7 => ⟨S65, .f32⟩
  | 8 => ⟨S65, .f32⟩
  | 9 => ⟨S_, .i32⟩
  | 10 => ⟨S_, .f32⟩
  | 11 => ⟨S8x128x66x66, .f32⟩
  | 12 => ⟨S8x128x64x64, .f32⟩
  | 13 => ⟨S8x128x64x64, .f32⟩
  | 14 => ⟨S8x128x64x64, .f32⟩
  | 15 => ⟨S8x128x64x64, .f32⟩
  | 16 => ⟨S8x128x64x64, .f32⟩
  | 17 => ⟨S8x128x64x64, .f32⟩
  | 18 => ⟨S8x128x64x64, .f32⟩
  | 19 => ⟨S8x128x64x64, .f32⟩
  | 20 => ⟨S8x128x64x64, .f32⟩
  | 21 => ⟨S8x128x1x64x64, .f32⟩
  | 22 => ⟨S8x128x1x64x64, .f32⟩
  | 23 => ⟨S8x128x1x64x64, .f32⟩
  | 24 => ⟨S8x128x1x64x64, .f32⟩
  | 25 => ⟨S8x128x1x64x64, .f32⟩
  | 26 => ⟨S8x128x1x64x64, .f32⟩
  | 27 => ⟨S8x128x1x64x64, .f32⟩
  | 28 => ⟨S8x128x1x64x64, .f32⟩
  | 29 => ⟨S8x128x1x64x64, .f32⟩
  | 30 => ⟨S8x128x9x64x64, .f32⟩
  | 31 => ⟨S256x128x9, .f32⟩
  | 32 => ⟨S256x8x64x64, .f32⟩
  | 33 => ⟨S8x256x64x64, .f32⟩
  | 34 => ⟨S1x256x1x1, .f32⟩
  | 35 => ⟨S8x256x64x64, .f32⟩
  | 36 => ⟨S8x256x64x64, .f32⟩
  | 37 => ⟨S_, .f32⟩
  | 38 => ⟨S256, .f32⟩
  | 39 => ⟨S1x256x1x1, .f32⟩
  | 40 => ⟨S_, .f32⟩
  | 41 => ⟨S1x256x1x1, .f32⟩
  | 42 => ⟨S1x256x1x1, .f32⟩
  | 43 => ⟨S_, .i32⟩
  | 44 => ⟨S_, .f32⟩
  | 45 => ⟨S256, .f32⟩
  | 46 => ⟨S1x256x1x1, .f32⟩
  | 47 => ⟨S_, .f32⟩
  | 48 => ⟨S1x256x1x1, .f32⟩
  | 49 => ⟨S1x256x1x1, .f32⟩
  | 50 => ⟨S8x256x64x64, .f32⟩
  | 51 => ⟨S8x256x64x64, .f32⟩
  | 52 => ⟨S8x256x64x64, .f32⟩
  | 53 => ⟨S_, .f32⟩
  | 54 => ⟨S_, .f32⟩
  | 55 => ⟨S_, .f32⟩
  | 56 => ⟨S_, .f32⟩
  | 57 => ⟨S256, .f32⟩
  | 58 => ⟨S1x256x1x1, .f32⟩
  | 59 => ⟨S1x256x1x1, .f32⟩
  | 60 => ⟨S1x256x1x1, .f32⟩
  | 61 => ⟨S_, .f32⟩
  | 62 => ⟨S_, .i1⟩
  | 63 => ⟨S_, .f32⟩
  | 64 => ⟨S_, .f32⟩
  | 65 => ⟨S1x256x1x1, .f32⟩
  | 66 => ⟨S1x256x1x1, .f32⟩
  | 67 => ⟨S8x256x64x64, .f32⟩
  | 68 => ⟨S8x256x64x64, .f32⟩
  | 69 => ⟨S_, .f32⟩
  | 70 => ⟨S1x256x1x1, .f32⟩
  | 71 => ⟨S1x256x1x1, .f32⟩
  | 72 => ⟨S1x256x1x1, .f32⟩
  | 73 => ⟨S8x256x64x64, .f32⟩
  | 74 => ⟨S8x256x64x64, .f32⟩
  | 75 => ⟨S1x256x1x1, .f32⟩
  | 76 => ⟨S8x256x64x64, .f32⟩
  | 77 => ⟨S8x256x64x64, .f32⟩
  | 78 => ⟨S1x256x1x1, .f32⟩
  | 79 => ⟨S8x256x64x64, .f32⟩
  | 80 => ⟨S8x256x64x64, .f32⟩
  | 81 => ⟨S_, .f32⟩
  | 82 => ⟨S8x256x64x64, .f32⟩
  | 83 => ⟨S8x256x64x64, .f32⟩
  | 84 => ⟨S65x256, .f32⟩
  | 85 => ⟨S65x8x64x64, .f32⟩
  | 86 => ⟨S8x65x64x64, .f32⟩
  | 87 => ⟨S1x65x1x1, .f32⟩
  | 88 => ⟨S8x65x64x64, .f32⟩
  | 89 => ⟨S8x65x64x64, .f32⟩
  | 90 => ⟨S_, .f32⟩
  | 91 => ⟨S65, .f32⟩
  | 92 => ⟨S1x65x1x1, .f32⟩
  | 93 => ⟨S_, .f32⟩
  | 94 => ⟨S1x65x1x1, .f32⟩
  | 95 => ⟨S1x65x1x1, .f32⟩
  | 96 => ⟨S_, .i32⟩
  | 97 => ⟨S_, .f32⟩
  | 98 => ⟨S65, .f32⟩
  | 99 => ⟨S1x65x1x1, .f32⟩
  | 100 => ⟨S_, .f32⟩
  | 101 => ⟨S1x65x1x1, .f32⟩
  | 102 => ⟨S1x65x1x1, .f32⟩
  | 103 => ⟨S8x65x64x64, .f32⟩
  | 104 => ⟨S8x65x64x64, .f32⟩
  | 105 => ⟨S8x65x64x64, .f32⟩
  | 106 => ⟨S_, .f32⟩
  | 107 => ⟨S_, .f32⟩
  | 108 => ⟨S_, .f32⟩
  | 109 => ⟨S_, .f32⟩
  | 110 => ⟨S65, .f32⟩
  | 111 => ⟨S1x65x1x1, .f32⟩
  | 112 => ⟨S1x65x1x1, .f32⟩
  | 113 => ⟨S1x65x1x1, .f32⟩
  | 114 => ⟨S_, .f32⟩
  | 115 => ⟨S_, .i1⟩
  | 116 => ⟨S_, .f32⟩
  | 117 => ⟨S_, .f32⟩
  | 118 => ⟨S1x65x1x1, .f32⟩
  | 119 => ⟨S1x65x1x1, .f32⟩
  | 120 => ⟨S8x65x64x64, .f32⟩
  | 121 => ⟨S8x65x64x64, .f32⟩
  | 122 => ⟨S_, .f32⟩
  | 123 => ⟨S1x65x1x1, .f32⟩
  | 124 => ⟨S1x65x1x1, .f32⟩
  | 125 => ⟨S1x65x1x1, .f32⟩
  | 126 => ⟨S8x65x64x64, .f32⟩
  | 127 => ⟨S8x65x64x64, .f32⟩
  | _ => ⟨S8x128x64x64, .f32⟩

abbrev hbmTy0_1 (i : Nat) : BufTy := match i % 128 with
  | 0 => ⟨S1x65x1x1, .f32⟩
  | 1 => ⟨S8x65x64x64, .f32⟩
  | 2 => ⟨S8x65x64x64, .f32⟩
  | 3 => ⟨S1x65x1x1, .f32⟩
  | 4 => ⟨S8x65x64x64, .f32⟩
  | 5 => ⟨S8x65x64x64, .f32⟩
  | 6 => ⟨S8x64x64x64, .f32⟩
  | 7 => ⟨S8x1x8x8x64x64, .f32⟩
  | 8 => ⟨S8x1x64x8x64x8, .f32⟩
  | 9 => ⟨S8x1x512x512, .f32⟩
  | 10 => ⟨S8x512x512, .f32⟩
  | 11 => ⟨S_, .f32⟩
  | 12 => ⟨S8x512x512, .f32⟩
  | 13 => ⟨S8x512x512, .i1⟩
  | 14 => ⟨S8x512x512, .i32⟩
  | _ => ⟨S8x128x64x64, .f32⟩

abbrev hbmTy (i : Nat) : BufTy := match i / 128 with
  | 0 => hbmTy0_0 i
  | 1 => hbmTy0_1 i
  | _ => ⟨S8x128x64x64, .f32⟩

abbrev bufTy : (tb : Table) → Fin (tcTables nBuf tb) → BufTy
  | .hbm, ⟨i, _⟩ => hbmTy i
  | _, _ => ⟨S8x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_c_1 : Ref sig .tc := ⟨.hbm, 43, rfl⟩
abbrev main_call1_cst : Ref sig .tc := ⟨.hbm, 44, rfl⟩
abbrev main_call1_v0 : Ref sig .tc := ⟨.hbm, 45, rfl⟩
abbrev main_call1_v1 : Ref sig .tc := ⟨.hbm, 46, rfl⟩
abbrev main_call1_cst_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_cst_1 : Ref sig .tc := ⟨.hbm, 54, rfl⟩
abbrev main_call1_v8 : Ref sig .tc := ⟨.hbm, 55, rfl⟩
abbrev main_call1_cst_2 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_cst_3 : Ref sig .tc := ⟨.hbm, 61, rfl⟩
abbrev main_call1_v13 : Ref sig .tc := ⟨.hbm, 62, rfl⟩
abbrev main_call1_cst_4 : Ref sig .tc := ⟨.hbm, 63, rfl⟩
abbrev main_call1_call0_v0 : Ref sig .tc := ⟨.hbm, 64, rfl⟩
abbrev main_call1_call0_v1 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_2 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_call2_cst : Ref sig .tc := ⟨.hbm, 81, rfl⟩
abbrev main_call2_v0 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_3 : Ref sig .tc := ⟨.hbm, 90, rfl⟩
abbrev main_v51 : Ref sig .tc := ⟨.hbm, 91, rfl⟩
abbrev main_v52 : Ref sig .tc := ⟨.hbm, 92, rfl⟩
abbrev main_cst_4 : Ref sig .tc := ⟨.hbm, 93, rfl⟩
abbrev main_v53 : Ref sig .tc := ⟨.hbm, 94, rfl⟩
abbrev main_v54 : Ref sig .tc := ⟨.hbm, 95, rfl⟩
abbrev main_c_5 : Ref sig .tc := ⟨.hbm, 96, rfl⟩
abbrev main_call3_cst : Ref sig .tc := ⟨.hbm, 97, rfl⟩
abbrev main_call3_v0 : Ref sig .tc := ⟨.hbm, 98, rfl⟩
abbrev main_call3_v1 : Ref sig .tc := ⟨.hbm, 99, rfl⟩
abbrev main_call3_cst_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_v6 : Ref sig .tc := ⟨.hbm, 105, rfl⟩
abbrev main_call3_v7 : Ref sig .tc := ⟨.hbm, 106, rfl⟩
abbrev main_call3_cst_1 : Ref sig .tc := ⟨.hbm, 107, rfl⟩
abbrev main_call3_v8 : Ref sig .tc := ⟨.hbm, 108, rfl⟩
abbrev main_call3_cst_2 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_v12 : Ref sig .tc := ⟨.hbm, 113, rfl⟩
abbrev main_call3_cst_3 : Ref sig .tc := ⟨.hbm, 114, rfl⟩
abbrev main_call3_v13 : Ref sig .tc := ⟨.hbm, 115, rfl⟩
abbrev main_call3_cst_4 : Ref sig .tc := ⟨.hbm, 116, rfl⟩
abbrev main_call3_call0_v0 : Ref sig .tc := ⟨.hbm, 117, rfl⟩
abbrev main_call3_call0_v1 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_cst_6 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_cst_7 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩

abbrev nD : Nat := 1
abbrev τ : Topo := Topo.v7x

variable {F : FTy → Type} [FloatOps F]
-- ==== Proof.Run.lean ====
/-
  The kernel program's run with its results: every execution ends with the three result arrays at the last boundary's
  contents and the arguments unchanged.
-/
module

public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Run

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, with each result array at its contents at the last
    boundary and every argument as launched. -/
theorem run : θ_run defs (onTc (τ := τ) (main (F := F))) ⟨m, fun _ => 0, ρ⟩ (fun r => ∀ c : Dev nD,
      r.2.mem ((c.tc : Thread nD τ).loc main_v64) = W17 m ρ c main_v64
      ∧ r.2.mem ((c.tc : Thread nD τ).loc main_v63_1) = W17 m ρ c main_v63_1
      ∧ r.2.mem ((c.tc : Thread nD τ).loc main_v63_2) = W17 m ρ c main_v63_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h _ c =>
      ⟨h c _ (mem_uc main_v64 (by decide)), h c _ (mem_uc main_v63_1 (by decide)), h c _ (mem_uc main_v63_2 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c)⟩)

end Cert.KernelIdeal.Run
-- ==== Proof.Spec.lean ====
/-
  The functions that both programs compute, over the extended reals and with plain `Fin` indices: a 3x3 product
  written as nine taps, the stretch from pixel numbers to rows and columns, and a batch normalization in its two
  spellings (the kernel's scale and shift; the reference's quotient). Nothing here mentions a program.
-/
module

public import Idealize.ShloMosaic.PureOps.Ideal.Laws

@[expose] public section

noncomputable section

open Idealize.ShloMosaic

namespace Cert.Net

/-- The number of pixels a channel's statistics range over, as the programs' f32 constant. -/
def cnt : EReal := Ideal.ofBits .f32 0x47000000#32

/-- The constant added to a variance, as the programs' f32 constant. -/
def eps : EReal := Ideal.ofBits .f32 0x3727C5AC#32

/-- An image with a border of zeros, at row `i`, column `j` of 66 and channel `k`: the image inside the border, zero on
    it. -/
def padded (x : Fin 128 → Fin 64 → Fin 64 → EReal) (i j : Fin 66) (k : Fin 128) : EReal :=
  if h : (1 ≤ i.val ∧ i.val - 1 < 64) ∧ 1 ≤ j.val ∧ j.val - 1 < 64 then
    x k ⟨i.val - 1, h.1.2⟩ ⟨j.val - 1, h.2.2⟩ else 0

/-- The row of the padded image that tap `t` reads for pixel number `p`. -/
def tapRow (p : Fin 4096) (t : Fin 9) : Fin 66 := ⟨p.val / 64 + t.val / 3, by omega⟩

/-- The column of the padded image that tap `t` reads for pixel number `p`. -/
def tapCol (p : Fin 4096) (t : Fin 9) : Fin 66 := ⟨p.val % 64 + t.val % 3, by omega⟩

/-- The 3x3 product at pixel number `p` and output channel `o`: nine taps, each a sum over the input channels. -/
def conv (xp : Fin 66 → Fin 66 → Fin 128 → EReal) (w : Fin 9 → Fin 128 → Fin 256 → EReal) (p : Fin 4096)
    (o : Fin 256) : EReal :=
  ∑ t : Fin 9, ∑ k : Fin 128, xp (tapRow p t) (tapCol p t) k * w t k o

/-- The nine taps one after another. -/
theorem conv_eq (xp : Fin 66 → Fin 66 → Fin 128 → EReal) (w : Fin 9 → Fin 128 → Fin 256 → EReal) (p : Fin 4096)
    (o : Fin 256) : conv xp w p o
      = ∑ k, xp (tapRow p 0) (tapCol p 0) k * w 0 k o + ∑ k, xp (tapRow p 1) (tapCol p 1) k * w 1 k o
        + ∑ k, xp (tapRow p 2) (tapCol p 2) k * w 2 k o + ∑ k, xp (tapRow p 3) (tapCol p 3) k * w 3 k o
        + ∑ k, xp (tapRow p 4) (tapCol p 4) k * w 4 k o + ∑ k, xp (tapRow p 5) (tapCol p 5) k * w 5 k o
        + ∑ k, xp (tapRow p 6) (tapCol p 6) k * w 6 k o + ∑ k, xp (tapRow p 7) (tapCol p 7) k * w 7 k o
        + ∑ k, xp (tapRow p 8) (tapCol p 8) k * w 8 k o := by
  rw [conv, Fin.sum_univ_castSucc, Fin.sum_univ_eight]; rfl

/-- A channel's two statistics: row 0 the sum of its values over the pixels, row 1 the sum of their squares. -/
def stat (f : Fin 4096 → EReal) (r : Fin 2) : EReal := if r.val = 0 then ∑ p, f p else ∑ p, f p * f p

/-- Row 0 of the statistics is the sum. -/
theorem stat_zero (f : Fin 4096 → EReal) (r : Fin 2) (h : r.val = 0) : stat f r = ∑ p, f p := if_pos h

/-- Row 1 of the statistics is the sum of the squares. -/
theorem stat_one (f : Fin 4096 → EReal) (r : Fin 2) (h : ¬ r.val = 0) : stat f r = ∑ p, f p * f p := if_neg h

/-- The kernel's scale of a channel, from the channel's sum `s`, its sum of squares `q` and the gain `g`. -/
def scaleOf (s q g : EReal) : EReal :=
  g * Ideal.rsqrt (Ideal.div q cnt - Ideal.div s cnt * Ideal.div s cnt + eps)

/-- The kernel's shift of a channel, from the channel's sum, its sum of squares, the gain and the offset `b`. -/
def shiftOf (s q g b : EReal) : EReal := b - Ideal.div s cnt * scaleOf s q g

/-- The rectified 1x1 product at pixel number `p` and output channel `k`: each input channel scaled and shifted by the
    two rows of `bn`, cut off below at zero, and summed with the weights. -/
def lin {n : Nat} (y : Fin 4096 → Fin 256 → EReal) (bn : Fin 2 → Fin 256 → EReal) (w : Fin 256 → Fin n → EReal)
    (p : Fin 4096) (k : Fin n) : EReal :=
  ∑ o, max (y p o * bn 0 o + bn 1 o) 0 * w o k

/-- The bound that a probability is compared with, as the programs' f32 constant. -/
def thr : EReal := Ideal.ofBits .f32 0x3C75C28F#32

/-- The detection of a value: 1 where it reaches the bound, 0 elsewhere. -/
def det (x : EReal) : BitVec 32 := (Ideal.cmp .oge x thr).setWidth 32

/-- The pixel number of the 8x8 cell that holds row `r` and column `q` of the large image. -/
def cellPix (r q : Fin 512) : Fin 4096 := ⟨r.val / 8 * 64 + q.val / 8, by omega⟩

/-- The channel that holds row `r` and column `q` of the large image within their 8x8 cell. -/
def cellChan (r q : Fin 512) : Fin 65 := ⟨r.val % 8 * 8 + q.val % 8, by omega⟩

/-- The reference's normalization of one value `y` by the mean `μ`, the variance `v`, the gain and the offset. -/
def normOf (y μ v g b : EReal) : EReal := Ideal.div (y - μ) (Ideal.sqrt (v + eps)) * g + b

/-- Row `h` and column `w` of an image of 64 columns, as a pixel number. -/
def pix (h w : Fin 64) : Fin 4096 := ⟨h.val * 64 + w.val, by omega⟩

/-- The row of pixel number `p`. -/
def pixRow (p : Fin 4096) : Fin 64 := ⟨p.val / 64, by omega⟩

/-- The column of pixel number `p`. -/
def pixCol (p : Fin 4096) : Fin 64 := ⟨p.val % 64, by omega⟩

/-- The row that tap `t` reads for the pixel at row `h`. -/
theorem tapRow_pix (h w : Fin 64) (t : Fin 9) : (tapRow (pix h w) t).val = h.val + t.val / 3 := by
  have := w.isLt
  show (h.val * 64 + w.val) / 64 + t.val / 3 = _
  omega

/-- The column that tap `t` reads for the pixel at column `w`. -/
theorem tapCol_pix (h w : Fin 64) (t : Fin 9) : (tapCol (pix h w) t).val = w.val + t.val % 3 := by
  have := w.isLt
  show (h.val * 64 + w.val) % 64 + t.val % 3 = _
  omega

end Cert.Net
-- ==== Proof.Algebra.lean ====
/-
  The network as a whole, in the kernel's spelling and in the reference's, and the proof that the two agree where the
  arguments are real: a normalization by scale and shift is the normalization by mean and variance, and a bias added to
  every value of a channel before the normalization changes nothing.
-/
module

public import proofs.«01_k».proof.Proof.Spec

@[expose] public section

noncomputable section

open Idealize.ShloMosaic

namespace Cert.Net

/-- One channel: a value per batch entry and pixel. -/
abbrev Chan := Fin 8 → Fin 4096 → EReal

/-- A channel's sum. -/
def total (y : Chan) : EReal := ∑ n, ∑ p, y n p

/-- A channel's sum of squares. -/
def totalSq (y : Chan) : EReal := ∑ n, ∑ p, y n p * y n p

/-- The kernel's normalization of a channel. -/
def kNorm (y : Chan) (g b : EReal) : Chan := fun n p =>
  y n p * scaleOf (total y) (totalSq y) g + shiftOf (total y) (totalSq y) g b

/-- A channel's mean. -/
def mean (y : Chan) : EReal := Ideal.div (total y) cnt

/-- A channel's variance: the mean of the squared distances from the mean. -/
def variance (y : Chan) : EReal := Ideal.div (∑ n, ∑ p, (y n p - mean y) * (y n p - mean y)) cnt

/-- The reference's normalization of a channel. -/
def rNorm (y : Chan) (g b : EReal) : Chan := fun n p => normOf (y n p) (mean y) (variance y) g b

/-- The kernel's network: the 3x3 product, normalized, cut off below at zero, the 1x1 product, normalized. -/
def netK (xp : Fin 8 → Fin 66 → Fin 66 → Fin 128 → EReal) (w1 : Fin 9 → Fin 128 → Fin 256 → EReal)
    (g1 b1 : Fin 256 → EReal) (w2 : Fin 256 → Fin 65 → EReal) (g2 b2 : Fin 65 → EReal) (k : Fin 65) : Chan :=
  kNorm (fun n p => ∑ o, max (kNorm (fun n p => conv (xp n) w1 p o) (g1 o) (b1 o) n p) 0 * w2 o k) (g2 k) (b2 k)

/-- The reference's network: the same with a bias after each product and its own normalization. -/
def netR (xp : Fin 8 → Fin 66 → Fin 66 → Fin 128 → EReal) (w1 : Fin 9 → Fin 128 → Fin 256 → EReal)
    (c1 g1 b1 : Fin 256 → EReal) (w2 : Fin 256 → Fin 65 → EReal) (c2 g2 b2 : Fin 65 → EReal) (k : Fin 65) : Chan :=
  rNorm (fun n p => ∑ o, max (rNorm (fun n p => conv (xp n) w1 p o + c1 o) (g1 o) (b1 o) n p) 0 * w2 o k + c2 k)
    (g2 k) (b2 k)

/-- The count is 32768. -/
theorem cnt_eq : cnt = ((32768 : ℝ) : EReal) := by
  simp [cnt, Ideal.ofBits, Ideal.ieee, -EReal.coe_mul]
  norm_num

/-- The constant added to a variance is a positive real. -/
theorem eps_eq : ∃ e : ℝ, 0 < e ∧ eps = (e : EReal) := by
  refine ⟨10995116 / 2 ^ 40, by norm_num, ?_⟩
  simp [eps, Ideal.ofBits, Ideal.ieee, -EReal.coe_mul]
  norm_num

/-- The sum of reals is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The larger of a real and zero is real. -/
theorem max_coe (r : ℝ) : max (r : EReal) 0 = ((max r 0 : ℝ) : EReal) := by
  rcases le_total r 0 with h | h
  · rw [max_eq_right h, max_eq_right (by exact_mod_cast h)]; rfl
  · rw [max_eq_left h, max_eq_left (by exact_mod_cast h)]

/-- A real divided by the count. -/
theorem div_cnt (r : ℝ) : Ideal.div (r : EReal) cnt = ((r / 32768 : ℝ) : EReal) := by
  rw [cnt_eq, Ideal.div_coe (by norm_num), ← EReal.coe_mul]
  congr 1; ring

/-- A channel of reals. -/
abbrev RChan := Fin 8 → Fin 4096 → ℝ

/-- The sum of a channel of reals. -/
def rsum (a : RChan) : ℝ := ∑ n, ∑ p, a n p

/-- The sum of a channel of reals, as an extended real. -/
theorem rsum_eq (a : RChan) : ∑ n, ∑ p, (a n p : EReal) = ((rsum a : ℝ) : EReal) := by
  unfold rsum
  rw [← sum_coe]
  exact Finset.sum_congr rfl fun n _ => sum_coe _ _

/-- Sums add. -/
theorem rsum_add (a a' : RChan) : rsum (fun n p => a n p + a' n p) = rsum a + rsum a' := by
  simp only [rsum, Finset.sum_add_distrib]

/-- The sum of a constant. -/
theorem rsum_const (r : ℝ) : rsum (fun _ _ => r) = 32768 * r := by
  simp only [rsum, Finset.sum_const, Finset.card_univ, Fintype.card_fin, nsmul_eq_mul]
  push_cast; ring

/-- A factor comes out of a sum. -/
theorem rsum_mul (a : RChan) (r : ℝ) : rsum (fun n p => r * a n p) = r * rsum a := by
  simp only [rsum, Finset.mul_sum]

/-- A sum of nonnegative values is nonnegative. -/
theorem rsum_nonneg (a : RChan) (h : ∀ n p, 0 ≤ a n p) : 0 ≤ rsum a :=
  Finset.sum_nonneg fun n _ => Finset.sum_nonneg fun p _ => h n p

/-- The mean squared distance from the mean is the mean square less the squared mean. -/
theorem spread (a : RChan) :
    rsum (fun n p => (a n p - rsum a / 32768) * (a n p - rsum a / 32768)) / 32768
      = rsum (fun n p => a n p * a n p) / 32768 - rsum a / 32768 * (rsum a / 32768) := by
  generalize hμ : rsum a / 32768 = μ
  have e : (fun n p => (a n p - μ) * (a n p - μ)) = fun n p => a n p * a n p + ((-2 * μ) * a n p + μ * μ) := by
    funext n p; ring
  rw [e, rsum_add, rsum_add, rsum_mul, rsum_const]
  have hS : rsum a = 32768 * μ := by rw [← hμ]; ring
  rw [hS]; ring

/-- The normalization of a channel of reals, by a real gain and any offset: the kernel's is the reference's of the
    channel with a real bias added, and both are one real channel plus the offset. -/
theorem norms (a : RChan) (β g : ℝ) : ∃ r : RChan, ∀ (b : EReal) (n : Fin 8) (p : Fin 4096),
    kNorm (fun n p => (a n p : EReal)) g b n p = (r n p : EReal) + b
      ∧ rNorm (fun n p => (a n p : EReal) + (β : EReal)) g b n p = (r n p : EReal) + b := by
  obtain ⟨e, he, hee⟩ := eps_eq
  have hsp := spread a
  obtain ⟨μ, hμ⟩ : ∃ μ, μ = rsum a / 32768 := ⟨_, rfl⟩
  rw [← hμ] at hsp
  obtain ⟨v, hv⟩ : ∃ v, v = rsum (fun n p => (a n p - μ) * (a n p - μ)) / 32768 := ⟨_, rfl⟩
  rw [← hv] at hsp
  have hv0 : 0 ≤ v := by
    rw [hv]
    exact div_nonneg (rsum_nonneg _ fun n p => mul_self_nonneg _) (by norm_num)
  have hve : 0 < v + e := by linarith
  have hs : 0 < √(v + e) := Real.sqrt_pos.2 hve
  have tot : total (fun n p => (a n p : EReal)) = ((rsum a : ℝ) : EReal) := rsum_eq a
  have totq : totalSq (fun n p => (a n p : EReal)) = ((rsum (fun n p => a n p * a n p) : ℝ) : EReal) := by
    rw [← rsum_eq]; simp only [totalSq, EReal.coe_mul]
  have sc : scaleOf (total fun n p => (a n p : EReal)) (totalSq fun n p => (a n p : EReal)) g
      = ((g * (√(v + e))⁻¹ : ℝ) : EReal) := by
    rw [scaleOf, tot, totq, div_cnt, div_cnt, hee, ← EReal.coe_mul, ← EReal.coe_sub, ← hμ, ← hsp, ← EReal.coe_add,
      Ideal.rsqrt_coe, if_neg (not_lt.2 hve.le), if_neg hve.ne', ← EReal.coe_mul]
  have mn : mean (fun n p => (a n p : EReal) + (β : EReal)) = ((μ + β : ℝ) : EReal) := by
    have : total (fun n p => (a n p : EReal) + (β : EReal)) = ((rsum (fun n p => a n p + β) : ℝ) : EReal) := by
      rw [← rsum_eq]; simp only [total, EReal.coe_add]
    rw [mean, this, div_cnt, rsum_add, rsum_const]
    exact congrArg Real.toEReal (by rw [hμ]; ring)
  have vr : variance (fun n p => (a n p : EReal) + (β : EReal)) = ((v : ℝ) : EReal) := by
    rw [variance, mn, hv, ← div_cnt, ← rsum_eq]
    refine congrArg (Ideal.div · cnt) (Finset.sum_congr rfl fun n _ => Finset.sum_congr rfl fun p _ => ?_)
    rw [← EReal.coe_add, ← EReal.coe_sub, ← EReal.coe_mul]
    exact congrArg Real.toEReal (by ring)
  refine ⟨fun n p => (a n p - μ) * (√(v + e))⁻¹ * g, fun b n p => ⟨?_, ?_⟩⟩
  · show (a n p : EReal) * scaleOf _ _ _ + shiftOf _ _ _ _ = (((a n p - μ) * (√(v + e))⁻¹ * g : ℝ) : EReal) + b
    rw [shiftOf, sc, tot, div_cnt, ← hμ, ← EReal.coe_mul, ← EReal.coe_mul, sub_eq_add_neg, add_comm b, ← add_assoc,
      ← EReal.coe_neg, ← EReal.coe_add]
    exact congrArg (Real.toEReal · + b) (by ring)
  · show normOf ((a n p : EReal) + (β : EReal)) _ _ _ _ = (((a n p - μ) * (√(v + e))⁻¹ * g : ℝ) : EReal) + b
    rw [normOf, mn, vr, hee, ← EReal.coe_add v e, Ideal.sqrt_coe, if_neg (not_lt.2 hve.le), ← EReal.coe_add,
      ← EReal.coe_sub, Ideal.div_coe hs.ne', ← EReal.coe_mul, ← EReal.coe_mul]
    exact congrArg (Real.toEReal · + b) (by rw [one_div]; ring)

/-- The 3x3 product of reals is real. -/
theorem conv_coe (xp : Fin 66 → Fin 66 → Fin 128 → ℝ) (w : Fin 9 → Fin 128 → Fin 256 → ℝ) (p : Fin 4096) (o : Fin 256) :
    conv (fun i j k => (xp i j k : EReal)) (fun t k o => (w t k o : EReal)) p o
      = ((∑ t : Fin 9, ∑ k : Fin 128, xp (tapRow p t) (tapCol p t) k * w t k o : ℝ) : EReal) := by
  rw [conv, ← sum_coe]
  refine Finset.sum_congr rfl fun t _ => ?_
  rw [← sum_coe]
  exact Finset.sum_congr rfl fun k _ => (EReal.coe_mul _ _).symm

/-- The two networks agree where every argument but the last offset is real. -/
theorem net_eq (xp : Fin 8 → Fin 66 → Fin 66 → Fin 128 → ℝ) (w1 : Fin 9 → Fin 128 → Fin 256 → ℝ)
    (c1 g1 b1 : Fin 256 → ℝ) (w2 : Fin 256 → Fin 65 → ℝ) (c2 g2 : Fin 65 → ℝ) (b2 : Fin 65 → EReal) (k : Fin 65)
    (n : Fin 8) (p : Fin 4096) :
    netK (fun n i j k => (xp n i j k : EReal)) (fun t k o => (w1 t k o : EReal)) (fun o => (g1 o : EReal))
        (fun o => (b1 o : EReal)) (fun o k => (w2 o k : EReal)) (fun k => (g2 k : EReal)) b2 k n p
      = netR (fun n i j k => (xp n i j k : EReal)) (fun t k o => (w1 t k o : EReal)) (fun o => (c1 o : EReal))
        (fun o => (g1 o : EReal)) (fun o => (b1 o : EReal)) (fun o k => (w2 o k : EReal)) (fun k => (c2 k : EReal))
        (fun k => (g2 k : EReal)) b2 k n p := by
  have first : ∀ o, ∃ r : RChan, ∀ n p,
      kNorm (fun n p => conv (fun i j k => (xp n i j k : EReal)) (fun t k o => (w1 t k o : EReal)) p o) (g1 o) (b1 o) n p
          = ((r n p + b1 o : ℝ) : EReal)
        ∧ rNorm (fun n p => conv (fun i j k => (xp n i j k : EReal)) (fun t k o => (w1 t k o : EReal)) p o + (c1 o : EReal))
            (g1 o) (b1 o) n p = ((r n p + b1 o : ℝ) : EReal) := by
    intro o
    obtain ⟨r, hr⟩ := norms (fun n p => ∑ t : Fin 9, ∑ k : Fin 128, xp n (tapRow p t) (tapCol p t) k * w1 t k o) (c1 o) (g1 o)
    refine ⟨r, fun n p => ?_⟩
    simp only [conv_coe, EReal.coe_add]
    exact hr (b1 o) n p
  choose r hr using first
  unfold netK netR
  simp only [fun o n p => (hr o n p).1, fun o n p => (hr o n p).2, max_coe, ← EReal.coe_mul, sum_coe]
  obtain ⟨q, hq⟩ := norms (fun n p => ∑ o, max (r o n p + b1 o) 0 * w2 o k) (c2 k) (g2 k)
  rw [(hq (b2 k) n p).1, (hq (b2 k) n p).2]

end Cert.Net
-- ==== Proof.Conv.lean ====
/-
  The first launch: what one block of the 3x3 product and of its two channel sums holds, and so what the launch's two
  result arrays hold, as functions of the arrays at the launch's entry.
-/
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Conv

open Cert.KernelIdeal Cert.KernelIdeal.Gen Cert.Net

/-- The accumulated nine products of a block, at pixel number `p` and output channel `o`. -/
theorem acc_at (x0 : FVec Ideal S1x66x66x128 .bf16) (x1 : FVec Ideal S9x128x256 .bf16) (p : Fin 4096) (o : Fin 256) :
    k0_pay1 (F := Ideal) (k0_pay11 x0 x1) (k0_pay12 x0 x1) (k0_pay13 x0 x1) (View.ld x0 r0_16) (View.ld x1 r0_17) (ix2 p o)
      = conv (fun i j k => x0 (ix4 0 i j k)) (fun t k o => x1 (ix3 t k o)) p o := by
  rw [conv_eq]
  unfold k0_pay11 k0_pay12 k0_pay13
  pointwise [k0_pay1, k0_pay8, k0_pay5, k0_pay6, k0_pay7, k0_pay9, k0_pay10]
  blk_point [tapRow, tapCol]

/-- What a block of the first result holds, at block index `y`: the product at its pixel number and output channel. -/
theorem out2_at (x0 : FVec Ideal S1x66x66x128 .bf16) (x1 : FVec Ideal S9x128x256 .bf16) (y : S1x4096x256.Idx) :
    out0_2 (F := Ideal) x0 x1 y = conv (fun i j k => x0 (ix4 0 i j k)) (fun t k o => x1 (ix3 t k o)) (y 1) (y 2) := by
  refine Eq.trans ?_ (acc_at x0 x1 (y 1) (y 2))
  unfold out0_2
  frame_out
  idx_vars y
  pointwise [k0_pay2]

/-- What a block of the second result holds: the sum over the pixels in row 0, the sum of the squares in row 1. -/
theorem out3_at (x0 : FVec Ideal S1x66x66x128 .bf16) (x1 : FVec Ideal S9x128x256 .bf16) (y : S1x2x256.Idx) :
    out0_3 (F := Ideal) x0 x1 y
      = stat (fun p => conv (fun i j k => x0 (ix4 0 i j k)) (fun t k o => x1 (ix3 t k o)) p (y 2)) (y 1) := by
  have hacc : (fun p => conv (fun i j k => x0 (ix4 0 i j k)) (fun t k o => x1 (ix3 t k o)) p (y 2)) = fun p =>
      k0_pay1 (F := Ideal) (k0_pay11 x0 x1) (k0_pay12 x0 x1) (k0_pay13 x0 x1) (View.ld x0 r0_16) (View.ld x1 r0_17)
        (ix2 p (y 2)) := funext fun p => (acc_at x0 x1 p (y 2)).symm
  rw [hacc]
  unfold out0_3
  generalize k0_pay11 (F := Ideal) x0 x1 = a, k0_pay12 (F := Ideal) x0 x1 = b, k0_pay13 (F := Ideal) x0 x1 = d,
    View.ld (Val := Elt Ideal) (e' := .bf16) x0 r0_16 = e, View.ld (Val := Elt Ideal) (e' := .bf16) x1 r0_17 = f
  unfold k0_pay3 k0_pay4
  generalize k0_pay1 (F := Ideal) a b d e f = u
  clear hacc
  canon_tiles x h
  case piece0 =>
    have h1' : ¬ (y 1).val = 0 := by omega
    refine Eq.trans ?_ (stat_one _ _ h1').symm
    pointwise
    blk_point []
  case piece1 =>
    have h1' : (y 1).val = 0 := by omega
    refine Eq.trans ?_ (stat_zero _ _ h1').symm
    pointwise
    blk_point []

variable (V : (c : Dev nD) → (b : Ref sig .tc) → Buf (Elt Ideal) ((c : Thread nD τ).loc b))

/-- The grid point's block index in each window: the image number, and the whole weight array. -/
theorem idx : ∀ t : Fin cfg0.N, win0_0.index t = ![t.val, 0, 0, 0] ∧ win0_1.index t = ![0, 0, 0]
    ∧ win0_2.index t = ![t.val, 0, 0] ∧ win0_3.index t = ![t.val, 0, 0] :=
  (by decide +kernel : ∀ t : Fin grid0.N, _)

/-- The padded image at the launch's entry. -/
abbrev xpOf (c : Dev nD) : FVec Ideal S8x66x66x128 .bf16 := V c main_v2

/-- The nine taps' weights at the launch's entry. -/
abbrev w9Of (c : Dev nD) : FVec Ideal S9x128x256 .bf16 := V c main_v5

/-- The 3x3 product of the arrays at the launch's entry, for image `b`. -/
def convV (c : Dev nD) (b : Fin 8) (p : Fin 4096) (o : Fin 256) : EReal :=
  conv (fun i j k => xpOf V c (ix4 b i j k)) (fun t k o => w9Of V c (ix3 t k o)) p o

/-- The product over the blocks at grid point `n` is the product over the arrays for the point's image. -/
theorem block_conv (c : Dev nD) (n : Fin cfg0.N) (b : Fin 8) (hb : b.val = n.val) (p : Fin 4096) (o : Fin 256) :
    conv (fun i j k => (iblk0 V c 0 n : FVec Ideal S1x66x66x128 .bf16) (ix4 0 i j k))
      (fun t k o => (iblk0 V c 1 n : FVec Ideal S9x128x256 .bf16) (ix3 t k o)) p o = convV V c b p o := by
  unfold convV
  congr 1
  · funext i j k
    blk_ext [iblk0, idx n, xpOf]
  · funext t k o
    blk_ext [iblk0, idx n, w9Of]

/-- The first result array after the launch: the 3x3 product. -/
theorem arr2 (c : Dev nD) : (dat0 V c).arrAt 2 cfg0.N
    = (fun y : S8x4096x256.Idx => convV V c (y 0) (y 1) (y 2) : FVec Ideal S8x4096x256 .f32) := by
  refine (dat0 V c).arrAt_eq_of_covers 2 _ (by decide +kernel) fun n _ y => ?_
  blk_simp
  rw [after0_2]
  refine (out2_at (iblk0 V c 0 n) (iblk0 V c 1 n) y).trans ?_
  refine (block_conv V c n _ ?_ (y 1) (y 2)).trans (congrArg₂ (convV V c _) (Fin.ext ?_) (Fin.ext ?_))
  all_goals blk_simp [idx n]
  all_goals (try omega)

/-- The second result array after the launch: for each image and channel the sum and the sum of squares. -/
theorem arr3 (c : Dev nD) : (dat0 V c).arrAt 3 cfg0.N
    = (fun y : S8x2x256.Idx => stat (fun p => convV V c (y 0) p (y 2)) (y 1) : FVec Ideal S8x2x256 .f32) := by
  refine (dat0 V c).arrAt_eq_of_covers 3 _ (by decide +kernel) fun n _ y => ?_
  blk_simp
  rw [after0_3]
  refine (out3_at (iblk0 V c 0 n) (iblk0 V c 1 n) y).trans ?_
  refine (congrArg₂ stat (funext fun p => (block_conv V c n _ ?_ p (y 2)).trans (congrArg (convV V c _ p) (Fin.ext ?_)))
    (Fin.ext ?_))
  all_goals blk_simp [idx n]
  all_goals (try omega)

end Cert.KernelIdeal.Conv
-- ==== Proof.Before.lean ====
/-
  The host operations before the first launch: the padded image and the nine taps' weights, as functions of the
  arguments.
-/
module

public import proofs.«01_k».proof.Proof.Gen.KernelIdeal.Frame
public import proofs.«01_k».proof.Proof.Conv
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Before

open Cert.KernelIdeal Cert.KernelIdeal.Gen Cert.Net

variable (m : (ℓ : Loc nD τ sig) → Buf (Elt Ideal) ℓ) (ρ : Dev nD → PrngReg)

/-- The padded image at the first launch. -/
theorem xp_at (c : Dev nD) (b : Fin 8) (i j : Fin 66) (k : Fin 128) :
    Conv.xpOf (V3 m ρ) c (ix4 b i j k)
      = padded (fun k i j => (m ((c : Thread nD τ).loc main_arg0) : FVec Ideal S8x128x64x64 .f32) (ix4 b k i j)) i j k := by
  have e : Conv.xpOf (V3 m ρ) c = W2 m ρ c (Proc.devRef .tc main_v2) := W3_of m ρ c main_v2 (by decide)
  rw [e]
  unfold W2 padded
  after_reads_at
  have hz : (FloatOps.sitofp .bf16 0#32 : Ideal .bf16) = (0 : EReal) := by
    show (((0#32 : BitVec 32).toInt : ℝ) : EReal) = 0
    simp
  rw [hz]

/-- The taps' weights at the first launch: tap `t` is row `t / 3` and column `t % 3` of the 3x3 weights. -/
theorem w9_at (c : Dev nD) (t : Fin 9) (k : Fin 128) (o : Fin 256) :
    Conv.w9Of (V3 m ρ) c (ix3 t k o)
      = (m ((c : Thread nD τ).loc main_arg1) : FVec Ideal S256x128x3x3 .f32)
          (ix4 o k ⟨t.val / 3, by omega⟩ ⟨t.val % 3, by omega⟩) := by
  unfold Conv.w9Of V3 W3
  after_reads_at

end Cert.KernelIdeal.Before
-- ==== Proof.Linear.lean ====
/-
  The second launch: what one block of the rectified 1x1 product and of its two channel sums holds, and so what the
  launch's two result arrays hold, as functions of the arrays at the launch's entry.
-/
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Linear

open Cert.KernelIdeal Cert.KernelIdeal.Gen Cert.Net

/-- The rectified product of a block, at pixel number `p` and output channel `k`. -/
theorem acc_at (x0 : FVec Ideal S1x4096x256 .f32) (x1 : FVec Ideal S2x256 .f32) (x2 : FVec Ideal S256x128 .bf16)
    (p : Fin 4096) (k : Fin 128) :
    k1_pay1 (F := Ideal) (View.ld x0 r1_0) (View.ld x1 r1_1) (View.ld x1 r1_2) (View.ld x2 r1_3) (ix2 p k)
      = lin (fun p o => x0 (ix3 0 p o)) (fun r o => x1 (ix2 r o)) (fun o k => x2 (ix2 o k)) p k := by
  unfold lin
  pointwise [k1_pay1]

/-- What a block of the first result holds, at block index `y`. -/
theorem out3_at (x0 : FVec Ideal S1x4096x256 .f32) (x1 : FVec Ideal S2x256 .f32) (x2 : FVec Ideal S256x128 .bf16)
    (y : S1x4096x128.Idx) : out1_3 (F := Ideal) x0 x1 x2 y
      = lin (fun p o => x0 (ix3 0 p o)) (fun r o => x1 (ix2 r o)) (fun o k => x2 (ix2 o k)) (y 1) (y 2) := by
  refine Eq.trans ?_ (acc_at x0 x1 x2 (y 1) (y 2))
  unfold out1_3
  generalize View.ld (Val := Elt Ideal) (e' := .f32) x0 r1_0 = a, View.ld (Val := Elt Ideal) (e' := .f32) x1 r1_1 = b,
    View.ld (Val := Elt Ideal) (e' := .f32) x1 r1_2 = d, View.ld (Val := Elt Ideal) (e' := .bf16) x2 r1_3 = e
  unfold k1_pay2
  generalize k1_pay1 (F := Ideal) a b d e = u
  frame_out
  idx_vars y
  pointwise

/-- What a block of the second result holds: the sum over the pixels in row 0, the sum of the squares in row 1. -/
theorem out4_at (x0 : FVec Ideal S1x4096x256 .f32) (x1 : FVec Ideal S2x256 .f32) (x2 : FVec Ideal S256x128 .bf16)
    (y : S1x2x128.Idx) : out1_4 (F := Ideal) x0 x1 x2 y
      = stat (fun p => lin (fun p o => x0 (ix3 0 p o)) (fun r o => x1 (ix2 r o)) (fun o k => x2 (ix2 o k)) p (y 2))
          (y 1) := by
  have hacc : (fun p => lin (fun p o => x0 (ix3 0 p o)) (fun r o => x1 (ix2 r o)) (fun o k => x2 (ix2 o k)) p (y 2))
      = fun p => k1_pay1 (F := Ideal) (View.ld x0 r1_0) (View.ld x1 r1_1) (View.ld x1 r1_2) (View.ld x2 r1_3)
        (ix2 p (y 2)) := funext fun p => (acc_at x0 x1 x2 p (y 2)).symm
  rw [hacc]
  unfold out1_4
  generalize View.ld (Val := Elt Ideal) (e' := .f32) x0 r1_0 = a, View.ld (Val := Elt Ideal) (e' := .f32) x1 r1_1 = b,
    View.ld (Val := Elt Ideal) (e' := .f32) x1 r1_2 = d, View.ld (Val := Elt Ideal) (e' := .bf16) x2 r1_3 = e
  unfold k1_pay3 k1_pay4
  generalize k1_pay1 (F := Ideal) a b d e = u
  clear hacc
  canon_tiles x h
  case piece0 =>
    have h1' : ¬ (y 1).val = 0 := by omega
    refine Eq.trans ?_ (stat_one _ _ h1').symm
    pointwise
    blk_point []
  case piece1 =>
    have h1' : (y 1).val = 0 := by omega
    refine Eq.trans ?_ (stat_zero _ _ h1').symm
    pointwise
    blk_point []

variable (V : (c : Dev nD) → (b : Ref sig .tc) → Buf (Elt Ideal) ((c : Thread nD τ).loc b))

/-- The grid point's block index in each window: the image number, and the whole scale and weight arrays. -/
theorem idx : ∀ t : Fin cfg1.N, win1_0.index t = ![t.val, 0, 0] ∧ win1_1.index t = ![0, 0] ∧ win1_2.index t = ![0, 0]
    ∧ win1_3.index t = ![t.val, 0, 0] ∧ win1_4.index t = ![t.val, 0, 0] :=
  (by decide +kernel : ∀ t : Fin grid1.N, _)

/-- The 3x3 product at the launch's entry. -/
abbrev yOf (c : Dev nD) : FVec Ideal S8x4096x256 .f32 := V c main_v6_0

/-- The scales (row 0) and shifts (row 1) at the launch's entry. -/
abbrev bnOf (c : Dev nD) : FVec Ideal S2x256 .f32 := V c main_v27

/-- The 1x1 weights at the launch's entry. -/
abbrev w2Of (c : Dev nD) : FVec Ideal S256x128 .bf16 := V c main_v33

/-- The rectified 1x1 product of the arrays at the launch's entry, for image `b`. -/
def linV (c : Dev nD) (b : Fin 8) (p : Fin 4096) (k : Fin 128) : EReal :=
  lin (fun p o => yOf V c (ix3 b p o)) (fun r o => bnOf V c (ix2 r o)) (fun o k => w2Of V c (ix2 o k)) p k

/-- The product over the blocks at grid point `n` is the product over the arrays for the point's image. -/
theorem block_lin (c : Dev nD) (n : Fin cfg1.N) (b : Fin 8) (hb : b.val = n.val) (p : Fin 4096) (k : Fin 128) :
    lin (fun p o => (iblk1 V c 0 n : FVec Ideal S1x4096x256 .f32) (ix3 0 p o))
      (fun r o => (iblk1 V c 1 n : FVec Ideal S2x256 .f32) (ix2 r o))
      (fun o k => (iblk1 V c 2 n : FVec Ideal S256x128 .bf16) (ix2 o k)) p k = linV V c b p k := by
  unfold linV
  congr 1
  · funext p o
    blk_ext [iblk1, idx n, yOf]
  · funext r o
    blk_ext [iblk1, idx n, bnOf]
  · funext o k
    blk_ext [iblk1, idx n, w2Of]

/-- The first result array after the launch: the rectified 1x1 product. -/
theorem arr3 (c : Dev nD) : (dat1 V c).arrAt 3 cfg1.N
    = (fun y : S8x4096x128.Idx => linV V c (y 0) (y 1) (y 2) : FVec Ideal S8x4096x128 .f32) := by
  refine (dat1 V c).arrAt_eq_of_covers 3 _ (by decide +kernel) fun n _ y => ?_
  blk_simp
  rw [after1_3]
  refine (out3_at (iblk1 V c 0 n) (iblk1 V c 1 n) (iblk1 V c 2 n) y).trans ?_
  refine (block_lin V c n _ ?_ (y 1) (y 2)).trans (congrArg₂ (linV V c _) (Fin.ext ?_) (Fin.ext ?_))
  all_goals blk_simp [idx n]
  all_goals (try omega)

/-- The second result array after the launch: for each image and channel the sum and the sum of squares. -/
theorem arr4 (c : Dev nD) : (dat1 V c).arrAt 4 cfg1.N
    = (fun y : S8x2x128.Idx => stat (fun p => linV V c (y 0) p (y 2)) (y 1) : FVec Ideal S8x2x128 .f32) := by
  refine (dat1 V c).arrAt_eq_of_covers 4 _ (by decide +kernel) fun n _ y => ?_
  blk_simp
  rw [after1_4]
  refine (out4_at (iblk1 V c 0 n) (iblk1 V c 1 n) (iblk1 V c 2 n) y).trans ?_
  refine (congrArg₂ stat (funext fun p => (block_lin V c n _ ?_ p (y 2)).trans (congrArg (linV V c _ p) (Fin.ext ?_)))
    (Fin.ext ?_))
  all_goals blk_simp [idx n]
  all_goals (try omega)

end Cert.KernelIdeal.Linear
-- ==== Proof.Norm.lean ====
/-
  The third launch: what one block of the scaled and shifted logits, of the large image and of its detections holds, and
  so what the launch's three result arrays hold, as functions of the arrays at the launch's entry.
-/
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Norm

open Cert.KernelIdeal Cert.KernelIdeal.Gen Cert.Net

/-- Channel `k` of 65, among the 128 that the kernel carries. -/
def wide (k : Fin 65) : Fin 128 := ⟨k.val, by omega⟩

/-- A block `x0` scaled and shifted by the two rows of `x1`, at pixel number `p` and channel `k`. -/
def affine (x0 : FVec Ideal S1x4096x128 .f32) (x1 : FVec Ideal S2x128 .f32) (p : Fin 4096) (k : Fin 65) : EReal :=
  x0 (ix3 0 p (wide k)) * x1 (ix2 0 (wide k)) + x1 (ix2 1 (wide k))

/-- The scaled and shifted block, at pixel number `p` and channel `k`. -/
theorem acc_at (x0 : FVec Ideal S1x4096x128 .f32) (x1 : FVec Ideal S2x128 .f32) (p : Fin 4096) (k : Fin 128) :
    k2_pay1 (F := Ideal) (View.ld x0 r2_0) (View.ld x1 r2_1) (View.ld x1 r2_2) (ix2 p k)
      = x0 (ix3 0 p k) * x1 (ix2 0 k) + x1 (ix2 1 k) := by
  pointwise [k2_pay1]

/-- What a block of the logits holds, at block index `y`. -/
theorem out2_at (x0 : FVec Ideal S1x4096x128 .f32) (x1 : FVec Ideal S2x128 .f32) (y : S1x65x4096.Idx) : out2_2 (F := Ideal) x0 x1 y
      = affine x0 x1 (y 2) (y 1) := by
  refine Eq.trans ?_ (acc_at x0 x1 (y 2) (wide (y 1)))
  unfold out2_2
  generalize View.ld (Val := Elt Ideal) (e' := .f32) x0 r2_0 = a, View.ld (Val := Elt Ideal) (e' := .f32) x1 r2_1 = b,
    View.ld (Val := Elt Ideal) (e' := .f32) x1 r2_2 = d
  unfold k2_pay2
  generalize k2_pay1 (F := Ideal) a b d = u
  frame_out
  pointwise
  blk_point []
  rfl

/-- The large image of a block, at row `r` and column `q`. -/
theorem img_at (x0 : FVec Ideal S1x4096x128 .f32) (x1 : FVec Ideal S2x128 .f32) (r q : Fin 512)
    (k : Fin 128) (hk : k.val = (cellChan r q).val) :
    k2_pay3 (F := Ideal) (View.ld x0 r2_0) (View.ld x1 r2_1) (View.ld x1 r2_2) (ix2 r q)
      = x0 (ix3 0 (cellPix r q) k) * x1 (ix2 0 k) + x1 (ix2 1 k) := by
  refine Eq.trans ?_ (acc_at x0 x1 (cellPix r q) k)
  unfold k2_pay3
  generalize k2_pay1 (F := Ideal) (View.ld x0 r2_0) (View.ld x1 r2_1) (View.ld x1 r2_2) = u
  pointwise
  have hk' : k.val = r.val % 8 * 8 + q.val % 8 := hk
  blk_point [cellPix]

/-- What a block of the large image holds, at block index `y`. -/
theorem out3_at (x0 : FVec Ideal S1x4096x128 .f32) (x1 : FVec Ideal S2x128 .f32) (y : S1x512x512.Idx) : out2_3 (F := Ideal) x0 x1 y
      = affine x0 x1 (cellPix (y 1) (y 2)) (cellChan (y 1) (y 2)) := by
  refine Eq.trans ?_ (img_at x0 x1 (y 1) (y 2) _ rfl)
  unfold out2_3 k2_pay4
  generalize k2_pay3 (F := Ideal) (View.ld x0 r2_0) (View.ld x1 r2_1) (View.ld x1 r2_2) = u
  frame_out
  idx_vars y
  pointwise

/-- What a block of the detections holds, at block index `y`. -/
theorem out4_at (x0 : FVec Ideal S1x4096x128 .f32) (x1 : FVec Ideal S2x128 .f32) (y : S1x512x512.Idx) : out2_4 (F := Ideal) x0 x1 y
      = det (affine x0 x1 (cellPix (y 1) (y 2)) (cellChan (y 1) (y 2))) := by
  refine Eq.trans ?_ (congrArg det (img_at x0 x1 (y 1) (y 2) _ rfl))
  unfold out2_4 k2_pay5
  generalize k2_pay3 (F := Ideal) (View.ld x0 r2_0) (View.ld x1 r2_1) (View.ld x1 r2_2) = u
  frame_out
  idx_vars y
  pointwise
  rfl

variable (V : (c : Dev nD) → (b : Ref sig .tc) → Buf (Elt Ideal) ((c : Thread nD τ).loc b))

/-- The grid point's block index in each window: the image number, and the whole scale array. -/
theorem idx : ∀ t : Fin cfg2.N, win2_0.index t = ![t.val, 0, 0] ∧ win2_1.index t = ![0, 0]
    ∧ win2_2.index t = ![t.val, 0, 0] ∧ win2_3.index t = ![t.val, 0, 0] ∧ win2_4.index t = ![t.val, 0, 0] :=
  (by decide +kernel : ∀ t : Fin grid2.N, _)

/-- The 1x1 product at the launch's entry. -/
abbrev lOf (c : Dev nD) : FVec Ideal S8x4096x128 .f32 := V c main_v34_0

/-- The scales (row 0) and shifts (row 1) at the launch's entry. -/
abbrev bnOf (c : Dev nD) : FVec Ideal S2x128 .f32 := V c main_v62

/-- The scaled and shifted product of the arrays at the launch's entry, for image `b`. -/
def normV (c : Dev nD) (b : Fin 8) (p : Fin 4096) (k : Fin 65) : EReal :=
  lOf V c (ix3 b p (wide k)) * bnOf V c (ix2 0 (wide k)) + bnOf V c (ix2 1 (wide k))

/-- The scaled and shifted block at grid point `n` is that of the arrays for the point's image. -/
theorem block_norm (c : Dev nD) (n : Fin cfg2.N) (b : Fin 8) (hb : b.val = n.val) (p : Fin 4096) (k : Fin 65) :
    affine (iblk2 V c 0 n) (iblk2 V c 1 n) p k = normV V c b p k := by
  unfold affine normV
  have e0 : (iblk2 V c 0 n : FVec Ideal S1x4096x128 .f32) (ix3 0 p (wide k)) = lOf V c (ix3 b p (wide k)) := by
    blk_ext [iblk2, idx n, lOf]
  have e1 (r : Fin 2) : (iblk2 V c 1 n : FVec Ideal S2x128 .f32) (ix2 r (wide k)) = bnOf V c (ix2 r (wide k)) := by
    blk_ext [iblk2, idx n, bnOf]
  rw [e0, e1, e1]

/-- The logits' array after the launch. -/
theorem arr2 (c : Dev nD) : (dat2 V c).arrAt 2 cfg2.N
    = (fun y : S8x65x4096.Idx => normV V c (y 0) (y 2) (y 1) : FVec Ideal S8x65x4096 .f32) := by
  refine (dat2 V c).arrAt_eq_of_covers 2 _ (by decide +kernel) fun n _ y => ?_
  blk_simp
  rw [after2_2]
  refine (out2_at (iblk2 V c 0 n) (iblk2 V c 1 n) y).trans ?_
  refine (block_norm V c n _ ?_ (y 2) (y 1)).trans (congrArg₂ (normV V c _) (Fin.ext ?_) (Fin.ext ?_))
  all_goals blk_simp [idx n]
  all_goals (try omega)

/-- The large image's array after the launch. -/
theorem arr3 (c : Dev nD) : (dat2 V c).arrAt 3 cfg2.N
    = (fun y : S8x512x512.Idx => normV V c (y 0) (cellPix (y 1) (y 2)) (cellChan (y 1) (y 2)) :
        FVec Ideal S8x512x512 .f32) := by
  refine (dat2 V c).arrAt_eq_of_covers 3 _ (by decide +kernel) fun n _ y => ?_
  blk_simp
  rw [after2_3]
  refine (out3_at (iblk2 V c 0 n) (iblk2 V c 1 n) y).trans ?_
  refine (block_norm V c n _ ?_ (cellPix (y 1) (y 2)) (cellChan (y 1) (y 2))).trans
    (congrArg₂ (normV V c _) (congrArg₂ cellPix (Fin.ext ?_) (Fin.ext ?_)) (congrArg₂ cellChan (Fin.ext ?_) (Fin.ext ?_)))
  all_goals blk_simp [idx n]
  all_goals (try omega)

/-- The detections' array after the launch. -/
theorem arr4 (c : Dev nD) : (dat2 V c).arrAt 4 cfg2.N
    = (fun y : S8x512x512.Idx => det (normV V c (y 0) (cellPix (y 1) (y 2)) (cellChan (y 1) (y 2))) :
        IVec S8x512x512 32) := by
  refine (dat2 V c).arrAt_eq_of_covers 4 _ (by decide +kernel) fun n _ y => ?_
  blk_simp
  rw [after2_4]
  refine (out4_at (iblk2 V c 0 n) (iblk2 V c 1 n) y).trans (congrArg det ?_)
  refine (block_norm V c n _ ?_ (cellPix (y 1) (y 2)) (cellChan (y 1) (y 2))).trans
    (congrArg₂ (normV V c _) (congrArg₂ cellPix (Fin.ext ?_) (Fin.ext ?_)) (congrArg₂ cellChan (Fin.ext ?_) (Fin.ext ?_)))
  all_goals blk_simp [idx n]
  all_goals (try omega)

end Cert.KernelIdeal.Norm
-- ==== Proof.Between.lean ====
/-
  The host operations between the first and the second launch: each channel's scale and shift, and the 1x1 weights.
-/
module

public import proofs.«01_k».proof.Proof.Gen.KernelIdeal.Frame
public import proofs.«01_k».proof.Proof.Linear
public import proofs.«01_k».proof.Proof.Norm
public import Idealize.ShloMosaic.Lib.Routing.OpsSet
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Between

open Cert.KernelIdeal Cert.KernelIdeal.Gen Cert.Net

variable (m : (ℓ : Loc nD τ sig) → Buf (Elt Ideal) ℓ) (ρ : Dev nD → PrngReg)

/-- The statistics that the first launch left: per batch entry, row 0 the sums and row 1 the sums of squares. -/
abbrev statOf (c : Dev nD) : FVec Ideal S8x2x256 .f32 := W4 m ρ c (Proc.devRef .tc main_v6_1)

/-- The gains of the first normalization. -/
abbrev gain (c : Dev nD) : FVec Ideal S256 .f32 := m ((c : Thread nD τ).loc main_arg3)

/-- The offsets of the first normalization. -/
abbrev offs (c : Dev nD) : FVec Ideal S256 .f32 := m ((c : Thread nD τ).loc main_arg4)

/-- The 1x1 weights. -/
abbrev weight (c : Dev nD) : FVec Ideal S65x256x1x1 .f32 := m ((c : Thread nD τ).loc main_arg5)

/-- Row 0 of what the second launch scales by: each channel's scale. -/
theorem scale_at (c : Dev nD) (o : Fin 256) :
    Linear.bnOf (V5 m ρ) c (ix2 0 o)
      = scaleOf (∑ b, statOf m ρ c (ix3 b 0 o)) (∑ b, statOf m ρ c (ix3 b 1 o)) (gain m c (ix1 o)) := by
  have e3 : (W4 m ρ c (Proc.devRef .tc main_arg3) : FVec Ideal S256 .f32) = gain m c := W4_args m ρ c main_arg3 (by decide)
  unfold Linear.bnOf V5 W5
  after_reads_at
  rw [e3]
  rfl

/-- Row 1 of what the second launch scales by: each channel's shift. -/
theorem shift_at (c : Dev nD) (o : Fin 256) :
    Linear.bnOf (V5 m ρ) c (ix2 1 o)
      = shiftOf (∑ b, statOf m ρ c (ix3 b 0 o)) (∑ b, statOf m ρ c (ix3 b 1 o)) (gain m c (ix1 o)) (offs m c (ix1 o)) := by
  have e3 : (W4 m ρ c (Proc.devRef .tc main_arg3) : FVec Ideal S256 .f32) = gain m c := W4_args m ρ c main_arg3 (by decide)
  have e4 : (W4 m ρ c (Proc.devRef .tc main_arg4) : FVec Ideal S256 .f32) = offs m c := W4_args m ρ c main_arg4 (by decide)
  unfold Linear.bnOf V5 W5
  after_reads_at
  rw [e3, e4]
  rfl

/-- Writing a narrower matrix into a wide one from column 0 on: update `j` lands at its own row and column. -/
theorem lands (j : S256x65.Idx) (idx : IVec S1 32) (h0 : ∀ i, idx i = 0#32) :
    scatter_S256x128_S1_S256x65_01_n_1_0.resultIdx? j idx = some (ix2 (j 0) (Norm.wide (j 1))) := by
  have s0 : ∀ a, scatter_S256x128_S1_S256x65_01_n_1_0.start j idx a = 0 := by
    intro a
    unfold ScatterDims.start
    split
    · rw [h0]; rfl
    · rfl
  have w0 : scatter_S256x128_S1_S256x65_01_n_1_0.window j 0 = (j 0).val := rfl
  have w1 : scatter_S256x128_S1_S256x65_01_n_1_0.window j 1 = (j 1).val := rfl
  have l0 : (j 0).val < 256 := (j 0).isLt
  have l1 : (j 1).val < 65 := (j 1).isLt
  unfold ScatterDims.resultIdx?
  rw [dif_pos (by
    intro a
    rw [s0]
    match a with
    | 0 => rw [w0]; show 0 ≤ _ ∧ _ < (256 : Int); omega
    | 1 => rw [w1]; show 0 ≤ _ ∧ _ < (128 : Int); omega)]
  refine congrArg some (funext fun a => Fin.ext ?_)
  show (scatter_S256x128_S1_S256x65_01_n_1_0.start j idx a + scatter_S256x128_S1_S256x65_01_n_1_0.window j a).toNat = _
  rw [s0]
  match a with
  | 0 => rw [w0]; show _ = (j 0).val; omega
  | 1 => rw [w1]; show _ = (j 1).val; omega

/-- The 1x1 weights at the second launch, read at a channel of the 65. -/
theorem w2_at (c : Dev nD) (o : Fin 256) (k : Fin 65) :
    Linear.w2Of (V5 m ρ) c (ix2 o (Norm.wide k)) = weight m c (ix4 k o 0 0) := by
  have e5 : (W4 m ρ c (Proc.devRef .tc main_arg5) : FVec Ideal S65x256x1x1 .f32) = weight m c :=
    W4_args m ρ c main_arg5 (by decide)
  unfold Linear.w2Of V5 W5
  after_reads_at
  rw [e5]
  refine Routing.scatter_set_hit _ _ _ _ _ _ (fun j hj => ?_) (ix2 o k) ?_
  · rw [lands j _ (fun _ => by pointwise)] at hj
    have q := Option.some.inj hj
    have q0 : j 0 = o := congrFun q 0
    have q1 : (j 1).val = k.val := congrArg (fun a : Fin 128 => a.val) (congrFun q 1)
    pointwise
    exact congrArg₂ (fun (a : Fin 65) (b : Fin 256) => weight m c (ix4 a b 0 0)) (Fin.ext q1) q0
  · exact lands _ _ (fun _ => rfl)

/-- At the second launch the 3x3 product is as the first launch left it. -/
theorem y_at (c : Dev nD) : Linear.yOf (V5 m ρ) c = V4 m ρ c main_v6_0 := W5_of m ρ c main_v6_0 (by decide)

end Cert.KernelIdeal.Between
-- ==== Proof.After.lean ====
/-
  The host operations between the second and the third launch: each channel's scale and shift.
-/
module

public import proofs.«01_k».proof.Proof.Gen.KernelIdeal.Frame
public import proofs.«01_k».proof.Proof.Norm
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.After

open Cert.KernelIdeal Cert.KernelIdeal.Gen Cert.Net

variable (m : (ℓ : Loc nD τ sig) → Buf (Elt Ideal) ℓ) (ρ : Dev nD → PrngReg)

/-- The statistics that the second launch left: per batch entry, row 0 the sums and row 1 the sums of squares. -/
abbrev statOf (c : Dev nD) : FVec Ideal S8x2x128 .f32 := W6 m ρ c (Proc.devRef .tc main_v34_1)

/-- The gains of the second normalization. -/
abbrev gain (c : Dev nD) : FVec Ideal S65 .f32 := m ((c : Thread nD τ).loc main_arg7)

/-- The offsets of the second normalization. -/
abbrev offs (c : Dev nD) : FVec Ideal S65 .f32 := m ((c : Thread nD τ).loc main_arg8)

/-- A word that says "true" selects the first of two values. -/
theorem chosen {α : Type} (a b : α) : Scalar.select 1#1 a b = a := rfl

/-- A channel of the 65 is below 65 as a 32-bit word. -/
theorem below (k : Fin 65) : IntOp.cmpi .slt (BitVec.ofNat 32 k.val) 65#32 = 1#1 := by
  revert k; decide

/-- Row 0 of what the third launch scales by, at one of the first 65 channels: its scale. -/
theorem scale_at' (c : Dev nD) (o : Fin 128) (hk : o.val < 65) :
    Norm.bnOf (V15 m ρ) c (ix2 0 o)
      = scaleOf (∑ b, statOf m ρ c (ix3 b 0 o)) (∑ b, statOf m ρ c (ix3 b 1 o)) (gain m c (ix1 ⟨o.val, hk⟩)) := by
  have e7 : (W6 m ρ c (Proc.devRef .tc main_arg7) : FVec Ideal S65 .f32) = gain m c := W6_args m ρ c main_arg7 (by decide)
  have hb : IntOp.cmpi .slt (BitVec.ofNat 32 o.val) 65#32 = 1#1 := below ⟨o.val, hk⟩
  unfold Norm.bnOf V15 W15
  after_reads_at
  rw [hb, dif_pos hk, e7, chosen]
  rfl

/-- Row 1 of what the third launch scales by, at one of the first 65 channels: its shift. -/
theorem shift_at' (c : Dev nD) (o : Fin 128) (hk : o.val < 65) :
    Norm.bnOf (V15 m ρ) c (ix2 1 o)
      = shiftOf (∑ b, statOf m ρ c (ix3 b 0 o)) (∑ b, statOf m ρ c (ix3 b 1 o)) (gain m c (ix1 ⟨o.val, hk⟩))
        (offs m c (ix1 ⟨o.val, hk⟩)) := by
  have e7 : (W6 m ρ c (Proc.devRef .tc main_arg7) : FVec Ideal S65 .f32) = gain m c := W6_args m ρ c main_arg7 (by decide)
  have e8 : (W6 m ρ c (Proc.devRef .tc main_arg8) : FVec Ideal S65 .f32) = offs m c := W6_args m ρ c main_arg8 (by decide)
  have hb : IntOp.cmpi .slt (BitVec.ofNat 32 o.val) 65#32 = 1#1 := below ⟨o.val, hk⟩
  unfold Norm.bnOf V15 W15
  after_reads_at
  rw [hb, dif_pos hk, dif_pos hk, e7, e8, chosen, chosen]
  rfl

/-- The scale of a channel of the 65. -/
theorem scale_at (c : Dev nD) (k : Fin 65) :
    Norm.bnOf (V15 m ρ) c (ix2 0 (Norm.wide k))
      = scaleOf (∑ b, statOf m ρ c (ix3 b 0 (Norm.wide k))) (∑ b, statOf m ρ c (ix3 b 1 (Norm.wide k))) (gain m c (ix1 k)) :=
  scale_at' m ρ c (Norm.wide k) k.isLt

/-- The shift of a channel of the 65. -/
theorem shift_at (c : Dev nD) (k : Fin 65) :
    Norm.bnOf (V15 m ρ) c (ix2 1 (Norm.wide k))
      = shiftOf (∑ b, statOf m ρ c (ix3 b 0 (Norm.wide k))) (∑ b, statOf m ρ c (ix3 b 1 (Norm.wide k))) (gain m c (ix1 k))
        (offs m c (ix1 k)) :=
  shift_at' m ρ c (Norm.wide k) k.isLt

/-- At the third launch the rectified product is as the second launch left it. -/
theorem l_at (c : Dev nD) : Norm.lOf (V15 m ρ) c = V6 m ρ c main_v34_0 := by
  refine (W15_of m ρ c main_v34_0 (by decide)).trans ?_
  refine (W14_of m ρ c main_v34_0 (by decide)).trans ?_
  refine (W13_of m ρ c main_v34_0 (by decide)).trans ?_
  refine (W12_of m ρ c main_v34_0 (by decide)).trans ?_
  refine (W11_of m ρ c main_v34_0 (by decide)).trans ?_
  refine (W10_of m ρ c main_v34_0 (by decide)).trans ?_
  refine (W9_of m ρ c main_v34_0 (by decide)).trans ?_
  refine (W8_of m ρ c main_v34_0 (by decide)).trans ?_
  exact W7_of m ρ c main_v34_0 (by decide)

end Cert.KernelIdeal.After
-- ==== Proof.Value.lean ====
/-
  What the kernel program leaves in its three results, as functions of the arguments: the network of the padded image,
  per pixel and channel; the same laid out as one large image; and where that image reaches the bound.
-/
module

public import proofs.«01_k».proof.Proof.Algebra
public import proofs.«01_k».proof.Proof.Before
public import proofs.«01_k».proof.Proof.Between
public import proofs.«01_k».proof.Proof.After

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Net

variable (m : (ℓ : Loc nD τ sig) → Buf (Elt Ideal) ℓ) (ρ : Dev nD → PrngReg)

/-- The image. -/
abbrev image (c : Dev nD) : FVec Ideal S8x128x64x64 .f32 := m ((c : Thread nD τ).loc main_arg0)

/-- The 3x3 weights. -/
abbrev taps (c : Dev nD) : FVec Ideal S256x128x3x3 .f32 := m ((c : Thread nD τ).loc main_arg1)

/-- The 3x3 product at a pixel and channel. -/
def conv1 (c : Dev nD) (o : Fin 256) : Chan := fun n p =>
  conv (padded fun k i j => image m c (ix4 n k i j)) (fun t k o => taps m c (ix4 o k ⟨t.val / 3, by omega⟩ ⟨t.val % 3, by omega⟩)) p o

/-- The rectified 1x1 product at a pixel and channel. -/
def lin1 (c : Dev nD) (k : Fin 65) : Chan := fun n p =>
  ∑ o, max (kNorm (conv1 m c o) (Between.gain m c (ix1 o)) (Between.offs m c (ix1 o)) n p) 0
    * Between.weight m c (ix4 k o 0 0)

/-- The network at a pixel and channel. -/
def net (c : Dev nD) (k : Fin 65) : Chan := kNorm (lin1 m c k) (After.gain m c (ix1 k)) (After.offs m c (ix1 k))

/-- What the first launch multiplies is the padded image with the taps. -/
theorem convV_eq (c : Dev nD) (n : Fin 8) (p : Fin 4096) (o : Fin 256) :
    Conv.convV (V3 m ρ) c n p o = conv1 m c o n p := by
  have ex : (fun i j k => Conv.xpOf (V3 m ρ) c (ix4 n i j k)) = padded fun k i j => image m c (ix4 n k i j) :=
    funext fun i => funext fun j => funext fun k => Before.xp_at m ρ c n i j k
  have ew : (fun t k o => Conv.w9Of (V3 m ρ) c (ix3 t k o))
      = fun t k o => taps m c (ix4 o k ⟨t.val / 3, by omega⟩ ⟨t.val % 3, by omega⟩) :=
    funext fun t => funext fun k => funext fun o => Before.w9_at m ρ c t k o
  rw [Conv.convV, ex, ew]
  rfl

/-- The 3x3 product at the second launch. -/
theorem y_eq (c : Dev nD) (n : Fin 8) (p : Fin 4096) (o : Fin 256) :
    Linear.yOf (V5 m ρ) c (ix3 n p o) = conv1 m c o n p := by
  have e : Linear.yOf (V5 m ρ) c = fun y : S8x4096x256.Idx => Conv.convV (V3 m ρ) c (y 0) (y 1) (y 2) :=
    (Between.y_at m ρ c).trans ((hF0 m ρ c 2).symm.trans (Conv.arr2 (V3 m ρ) c))
  rw [e]
  exact convV_eq m ρ c n p o

/-- The first launch's statistics. -/
theorem stat1_eq (c : Dev nD) : Between.statOf m ρ c
    = fun y : S8x2x256.Idx => stat (fun p => conv1 m c (y 2) (y 0) p) (y 1) := by
  have e : Between.statOf m ρ c = fun y : S8x2x256.Idx => stat (fun p => Conv.convV (V3 m ρ) c (y 0) p (y 2)) (y 1) :=
    (hF0 m ρ c 3).symm.trans (Conv.arr3 (V3 m ρ) c)
  rw [e]
  exact funext fun y => congrArg (stat · (y 1)) (funext fun p => convV_eq m ρ c (y 0) p (y 2))

/-- Each channel's sum. -/
theorem sum1_eq (c : Dev nD) (o : Fin 256) : ∑ b, Between.statOf m ρ c (ix3 b 0 o) = total (conv1 m c o) := by
  rw [stat1_eq]
  exact Finset.sum_congr rfl fun b _ => stat_zero _ _ rfl

/-- Each channel's sum of squares. -/
theorem sumSq1_eq (c : Dev nD) (o : Fin 256) : ∑ b, Between.statOf m ρ c (ix3 b 1 o) = totalSq (conv1 m c o) := by
  rw [stat1_eq]
  exact Finset.sum_congr rfl fun b _ => stat_one _ _ (show ¬ (1 : ℕ) = 0 by decide)

/-- The second launch's rectified product. -/
theorem linV_eq (c : Dev nD) (n : Fin 8) (p : Fin 4096) (k : Fin 65) :
    Linear.linV (V5 m ρ) c n p (Norm.wide k) = lin1 m c k n p := by
  unfold Linear.linV lin lin1
  refine Finset.sum_congr rfl fun o _ => ?_
  dsimp only
  rw [y_eq, Between.scale_at, Between.shift_at, Between.w2_at, sum1_eq, sumSq1_eq]
  rfl

/-- The product at the third launch. -/
theorem l_eq (c : Dev nD) (n : Fin 8) (p : Fin 4096) (k : Fin 65) :
    Norm.lOf (V15 m ρ) c (ix3 n p (Norm.wide k)) = lin1 m c k n p := by
  have e : Norm.lOf (V15 m ρ) c = fun y : S8x4096x128.Idx => Linear.linV (V5 m ρ) c (y 0) (y 1) (y 2) :=
    (After.l_at m ρ c).trans ((hF1 m ρ c 3).symm.trans (Linear.arr3 (V5 m ρ) c))
  rw [e]
  exact linV_eq m ρ c n p k

/-- The second launch's statistics. -/
theorem stat2_eq (c : Dev nD) : After.statOf m ρ c
    = fun y : S8x2x128.Idx => stat (fun p => Linear.linV (V5 m ρ) c (y 0) p (y 2)) (y 1) :=
  (hF1 m ρ c 4).symm.trans (Linear.arr4 (V5 m ρ) c)

/-- Each channel's sum. -/
theorem sum2_eq (c : Dev nD) (k : Fin 65) :
    ∑ b, After.statOf m ρ c (ix3 b 0 (Norm.wide k)) = total (lin1 m c k) := by
  rw [stat2_eq]
  exact Finset.sum_congr rfl fun b _ => (stat_zero _ _ rfl).trans (Finset.sum_congr rfl fun p _ => linV_eq m ρ c b p k)

/-- Each channel's sum of squares. -/
theorem sumSq2_eq (c : Dev nD) (k : Fin 65) :
    ∑ b, After.statOf m ρ c (ix3 b 1 (Norm.wide k)) = totalSq (lin1 m c k) := by
  rw [stat2_eq]
  exact Finset.sum_congr rfl fun b _ => (stat_one _ _ (show ¬ (1 : ℕ) = 0 by decide)).trans
    (Finset.sum_congr rfl fun p _ => congrArg₂ (· * ·) (linV_eq m ρ c b p k) (linV_eq m ρ c b p k))

/-- The third launch's scaled and shifted logits are the network. -/
theorem normV_eq (c : Dev nD) (n : Fin 8) (p : Fin 4096) (k : Fin 65) :
    Norm.normV (V15 m ρ) c n p k = net m c k n p := by
  unfold Norm.normV
  rw [l_eq, After.scale_at, After.shift_at, sum2_eq, sumSq2_eq]
  rfl

/-- The logits, the first result. -/
theorem res0 (c : Dev nD) : (W17 m ρ c main_v64 : FVec Ideal S8x65x64x64 .f32)
    = fun y : S8x65x64x64.Idx => net m c (y 1) (y 0) (pix (y 2) (y 3)) := by
  have e : (W16 m ρ c (Proc.devRef .tc main_v63_0) : FVec Ideal S8x65x4096 .f32)
      = fun y : S8x65x4096.Idx => Norm.normV (V15 m ρ) c (y 0) (y 2) (y 1) :=
    (hF2 m ρ c 2).symm.trans (Norm.arr2 (V15 m ρ) c)
  funext y
  obtain ⟨n, k, i, j, rfl⟩ : ∃ n k i j, y = ix4 n k i j := ⟨y 0, y 1, y 2, y 3, (ix4_eta y).symm⟩
  show (W17 m ρ c (Proc.devRef .tc main_v64) : FVec Ideal S8x65x64x64 .f32) (ix4 n k i j) = _
  unfold W17
  after_reads_at
  exact (congrFun e _).trans (normV_eq m ρ c n (pix i j) k)

/-- The large image, the second result. -/
theorem res1 (c : Dev nD) : (W17 m ρ c main_v63_1 : FVec Ideal S8x512x512 .f32)
    = fun y : S8x512x512.Idx => net m c (cellChan (y 1) (y 2)) (y 0) (cellPix (y 1) (y 2)) := by
  have e : (W17 m ρ c main_v63_1 : FVec Ideal S8x512x512 .f32)
      = fun y : S8x512x512.Idx => Norm.normV (V15 m ρ) c (y 0) (cellPix (y 1) (y 2)) (cellChan (y 1) (y 2)) :=
    (W17_of m ρ c main_v63_1 (by decide)).trans ((hF2 m ρ c 3).symm.trans (Norm.arr3 (V15 m ρ) c))
  rw [e]
  exact funext fun y => normV_eq m ρ c _ _ _

/-- The detections, the third result. -/
theorem res2 (c : Dev nD) : (W17 m ρ c main_v63_2 : IVec S8x512x512 32)
    = fun y : S8x512x512.Idx => det (net m c (cellChan (y 1) (y 2)) (y 0) (cellPix (y 1) (y 2))) := by
  have e : (W17 m ρ c main_v63_2 : IVec S8x512x512 32)
      = fun y : S8x512x512.Idx => det (Norm.normV (V15 m ρ) c (y 0) (cellPix (y 1) (y 2)) (cellChan (y 1) (y 2))) :=
    (W17_of m ρ c main_v63_2 (by decide)).trans ((hF2 m ρ c 4).symm.trans (Norm.arr4 (V15 m ρ) c))
  rw [e]
  exact funext fun y => congrArg det (normV_eq m ρ c _ _ _)

end Cert.KernelIdeal.Value
-- ==== Proof.Finite.lean ====
/-
  What the precondition says of the arguments: every element of each array it tests is a real number.
-/
module

public import proofs.«01_k».proof.Proof.Gen.Pre_finite
public import Idealize.ShloMosaic.Lib.Pointwise
public import Idealize.ShloMosaic.Lib.ReduceAll

@[expose] public section

noncomputable section

open Idealize.ShloMosaic

namespace Cert.Finite

open Cert.Pre_finite

/-- A value whose magnitude is below the bit pattern of infinity is real. -/
theorem real_of_lt (x : EReal) (h : Ideal.cmp .olt (max x (-x)) (Ideal.ofBits .f32 0x7F800000#32) = 1#1) :
    ∃ r : ℝ, x = (r : EReal) := by
  have e : Ideal.ofBits .f32 0x7F800000#32 = ⊤ := by simp [Ideal.ofBits, Ideal.ieee]
  rw [e] at h
  induction x using EReal.rec with
  | bot => simp [Ideal.cmp] at h
  | coe r => exact ⟨r, rfl⟩
  | top => simp [Ideal.cmp] at h

/-- An array that passes the test holds reals. -/
theorem reals_of_all {s : Shape} {axes : List (Fin s.rank)} (x : FVec Ideal s .f32) (hb : S_.BroadcastsInDim s (![] : Fin 0 → Fin s.rank))
    (hr : s.ReducesTo axes S_) (hp : 0 < S_.numel)
    (h : Host.reduce IntOp.andi (cmpf .olt (Host.absf x) (broadcastInDim s ![] hb (constant (F := Ideal) S_ .f32 0x7F800000#32)))
      (constantI S_ 1 1#1) hr hp ix0 = 1#1) (i : s.Idx) : ∃ r : ℝ, x i = (r : EReal) := by
  have e := Host.reduce_andi_all _ _ hr hp ix0 h i
  exact real_of_lt (x i) e

/-- Both of two words that are 1 together are 1. -/
theorem both (a b : IVec S_ 1) (h : andi a b ix0 = 1#1) : a ix0 = 1#1 ∧ b ix0 = 1#1 :=
  IntOp.andi_eq_one.1 h

/-- Under the precondition the elements of the first eight arguments are real. -/
theorem reals (x0 : FVec Ideal S8x128x64x64 .f32) (x1 : FVec Ideal S256x128x3x3 .f32) (x2 x3 x4 : FVec Ideal S256 .f32)
    (x5 : FVec Ideal S65x256x1x1 .f32) (x6 x7 x8 : FVec Ideal S65 .f32)
    (h : fn (F := Ideal) x0 x1 x2 x3 x4 x5 x6 x7 x8 ix0 = 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) := by
  unfold fn fn_part1 fn_part2 at h
  obtain ⟨h, h7⟩ := both _ _ h
  obtain ⟨h, h6⟩ := both _ _ h
  obtain ⟨h, h5⟩ := both _ _ h
  obtain ⟨h, h4⟩ := both _ _ h
  obtain ⟨h, h3⟩ := both _ _ h
  obtain ⟨h, h2⟩ := both _ _ h
  obtain ⟨h0, h1⟩ := both _ _ h
  exact ⟨reals_of_all x0 _ _ _ h0, reals_of_all x1 _ _ _ h1, reals_of_all x2 _ _ _ h2, reals_of_all x3 _ _ _ h3,
    reals_of_all x4 _ _ _ h4, reals_of_all x5 _ _ _ h5, reals_of_all x6 _ _ _ h6, reals_of_all x7 _ _ _ h7⟩

end Cert.Finite
-- ==== Proof.RefConv.lean ====
/-
  The reference's 3x3 product: the padded image, the nine shifted copies of it side by side, and their product with the
  weights, read at an index.
-/
module

public import proofs.«01_k».proof.Proof.Gen.ReferenceIdeal.Run
public import proofs.«01_k».proof.Proof.Algebra
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceIdeal.RefConv

open Cert.ReferenceIdeal Cert.ReferenceIdeal.Gen Cert.ReferenceIdeal.Value Cert.Net

variable (V : Valuation τ sig (Elt Ideal))

/-- The integer zero converted to a float is zero. -/
theorem zero_word : (FloatOps.sitofp .f32 0#32 : Ideal .f32) = (0 : EReal) := by
  show (((0#32 : BitVec 32).toInt : ℝ) : EReal) = 0
  simp

/-- The image, batch entry `b`. -/
abbrev image (b : Fin 8) (k : Fin 128) (i j : Fin 64) : EReal :=
  (V (Proc.devRef .tc main_arg0) : FVec Ideal S8x128x64x64 .f32) (ix4 b k i j)

/-- The weight of tap `t`. -/
abbrev tap (t : Fin 9) (k : Fin 128) (o : Fin 256) : EReal :=
  (V (Proc.devRef .tc main_arg1) : FVec Ideal S256x128x3x3 .f32) (ix4 o k ⟨t.val / 3, by omega⟩ ⟨t.val % 3, by omega⟩)

/-- The first bias. -/
abbrev bias1 (o : Fin 256) : EReal := (V (Proc.devRef .tc main_arg2) : FVec Ideal S256 .f32) (ix1 o)

/-- The padded image. -/
theorem v0_at (b : Fin 8) (k : Fin 128) (i j : Fin 66) : (res_main_v0 V : FVec Ideal S8x128x66x66 .f32) (ix4 b k i j)
    = padded (image V b) i j k := by
  unfold res_main_v0 padded
  clean_types
  pointwise
  rw [zero_word]

/-- The copy that tap `t` reads, of the nine side by side, is the image shifted by the tap's row and column. -/
theorem copies (x : FVec Ideal S8x128x66x66 .f32) (b : Fin 8) (k : Fin 128) (h w : Fin 64) (t : Fin 9) :
    (if _ : t.val < 1 then x (ix4 b k ⟨h.val, by omega⟩ ⟨w.val, by omega⟩)
      else if _ : t.val - 1 < 1 then x (ix4 b k ⟨h.val, by omega⟩ ⟨1 + w.val, by omega⟩)
      else if _ : t.val - 1 - 1 < 1 then x (ix4 b k ⟨h.val, by omega⟩ ⟨2 + w.val, by omega⟩)
      else if _ : t.val - 1 - 1 - 1 < 1 then x (ix4 b k ⟨1 + h.val, by omega⟩ ⟨w.val, by omega⟩)
      else if _ : t.val - 1 - 1 - 1 - 1 < 1 then x (ix4 b k ⟨1 + h.val, by omega⟩ ⟨1 + w.val, by omega⟩)
      else if _ : t.val - 1 - 1 - 1 - 1 - 1 < 1 then x (ix4 b k ⟨1 + h.val, by omega⟩ ⟨2 + w.val, by omega⟩)
      else if _ : t.val - 1 - 1 - 1 - 1 - 1 - 1 < 1 then x (ix4 b k ⟨2 + h.val, by omega⟩ ⟨w.val, by omega⟩)
      else if _ : t.val - 1 - 1 - 1 - 1 - 1 - 1 - 1 < 1 then x (ix4 b k ⟨2 + h.val, by omega⟩ ⟨1 + w.val, by omega⟩)
      else x (ix4 b k ⟨2 + h.val, by omega⟩ ⟨2 + w.val, by omega⟩))
      = x (ix4 b k (tapRow (pix h w) t) (tapCol (pix h w) t)) := by
  have := t.isLt
  split_ifs <;>
    exact congrArg₂ (fun i j => x (ix4 b k i j)) (Fin.ext (by rw [tapRow_pix]; dsimp only; omega))
      (Fin.ext (by rw [tapCol_pix]; dsimp only; omega))

/-- The 3x3 product with its bias. -/
theorem v25_at (b : Fin 8) (o : Fin 256) (h w : Fin 64) : (res_main_v25 V : FVec Ideal S8x256x64x64 .f32) (ix4 b o h w)
    = conv (padded (image V b)) (tap V) (pix h w) o + bias1 V o := by
  have ex : ∀ k i j, (res_main_v0 V : FVec Ideal S8x128x66x66 .f32) (ix4 b k i j) = padded (image V b) i j k :=
    fun k i j => v0_at V b k i j
  unfold res_main_v25
  clean_types
  generalize (res_main_v0 V : FVec Ideal S8x128x66x66 .f32) = x at ex ⊢
  pointwise
  refine congrArg (· + bias1 V o) ?_
  unfold conv
  rw [Finset.sum_comm]
  refine Finset.sum_congr rfl fun t _ => Finset.sum_congr rfl fun k _ => ?_
  refine (mul_comm _ _).trans (congrArg (· * tap V t k o) ?_)
  exact (copies x b k h w t).trans (ex k _ _)

end Cert.ReferenceIdeal.RefConv
-- ==== Proof.RefNorm.lean ====
/-
  The reference's normalizations and its 1x1 product, read at an index: each normalization is `rNorm` of its channel.
-/
module

public import proofs.«01_k».proof.Proof.RefConv

@[expose] public section

set_option maxRecDepth 16384

noncomputable section

open Idealize.ShloMosaic Idealize.ShloMosaic.TcCoe Idealize.SL.Sem

namespace Cert.ReferenceIdeal.RefNorm

open Cert.ReferenceIdeal Cert.ReferenceIdeal.Gen Cert.ReferenceIdeal.Value Cert.Net Cert.ReferenceIdeal.RefConv

/-- The pixel number of a pixel number's row and column. -/
theorem pix_row_col (p : Fin 4096) : pix (pixRow p) (pixCol p) = p :=
  Fin.ext (by show p.val / 64 * 64 + p.val % 64 = p.val; omega)

/-- The row of a pixel. -/
theorem pixRow_pix (h w : Fin 64) : pixRow (pix h w) = h :=
  Fin.ext (by show (h.val * 64 + w.val) / 64 = h.val; omega)

/-- The column of a pixel. -/
theorem pixCol_pix (h w : Fin 64) : pixCol (pix h w) = w :=
  Fin.ext (by show (h.val * 64 + w.val) % 64 = w.val; omega)

/-- A sum over the batch, the rows and the columns is a sum over the batch and the pixel numbers. -/
theorem sum_all {C : Nat} (hr : (⟨4, ![8, C, 64, 64]⟩ : Shape).ReducesTo [0, 2, 3] ⟨1, ![C]⟩)
    (x : (⟨4, ![8, C, 64, 64]⟩ : Shape).Idx → EReal) (o : Fin C) (Y : Chan)
    (hY : ∀ n h w, x (ix4 n o h w) = Y n (pix h w)) : Ideal.hostReduceAdd hr x 0 (ix1 o) = total Y := by
  have hd : ∀ i, hr.drop i = ix1 (i 1) := fun i => by
    funext a
    match a with
    | ⟨0, _⟩ => rfl
  show 0 + _ = _
  rw [zero_add]
  unfold total
  rw [← Finset.sum_product']
  refine Finset.sum_bij' (fun i _ => (i 0, pix (i 2) (i 3))) (fun q _ => ix4 q.1 o (pixRow q.2) (pixCol q.2))
    (fun _ _ => Finset.mem_product.2 ⟨Finset.mem_univ _, Finset.mem_univ _⟩)
    (fun q _ => Finset.mem_filter.2 ⟨Finset.mem_univ _, (hd _).trans rfl⟩) ?_ ?_ ?_
  · intro i hi
    have e : i 1 = o := congrFun ((hd i).symm.trans (Finset.mem_filter.1 hi).2) 0
    obtain ⟨n, k, h, w, rfl⟩ : ∃ n k h w, i = ix4 n k h w := ⟨i 0, i 1, i 2, i 3, (ix4_eta i).symm⟩
    have e' : k = o := e
    subst e'
    show ix4 n k (pixRow (pix h w)) (pixCol (pix h w)) = _
    rw [pixRow_pix, pixCol_pix]
  · intro q _
    exact Prod.ext rfl (pix_row_col q.2)
  · intro i hi
    have e : i 1 = o := congrFun ((hd i).symm.trans (Finset.mem_filter.1 hi).2) 0
    obtain ⟨n, k, h, w, rfl⟩ : ∃ n k h w, i = ix4 n k h w := ⟨i 0, i 1, i 2, i 3, (ix4_eta i).symm⟩
    have e' : k = o := e
    subst e'
    exact hY n h w

/-- The count is positive. -/
theorem cnt_pos : 0 < cnt := by
  rw [cnt_eq]
  exact_mod_cast (by norm_num : (0 : ℝ) < 32768)

/-- A channel's mean, subtracted, as the reference writes it. -/
theorem centred {C : Nat} (hr : (⟨4, ![8, C, 64, 64]⟩ : Shape).ReducesTo [0, 2, 3] ⟨1, ![C]⟩)
    (x : (⟨4, ![8, C, 64, 64]⟩ : Shape).Idx → EReal) (o : Fin C) (Y : Chan)
    (hY : ∀ n h w, x (ix4 n o h w) = Y n (pix h w)) (n : Fin 8) (h w : Fin 64) :
    x (ix4 n o h w) - Ideal.div (Ideal.hostReduceAdd hr x 0 (ix1 o)) (Ideal.ofBits .f32 1191182336#32)
      = Y n (pix h w) - mean Y := by
  rw [hY, sum_all hr x o Y hY]
  rfl

/-- The normalization, as the reference writes it: the divisor of the variance is the count, which is positive. -/
theorem normed {C : Nat} (hr : (⟨4, ![8, C, 64, 64]⟩ : Shape).ReducesTo [0, 2, 3] ⟨1, ![C]⟩)
    (x sq : (⟨4, ![8, C, 64, 64]⟩ : Shape).Idx → EReal) (d other g b : EReal) (o : Fin C) (Y : Chan)
    (hY : ∀ n h w, x (ix4 n o h w) = Y n (pix h w))
    (hq : ∀ n h w, sq (ix4 n o h w) = (Y n (pix h w) - mean Y) * (Y n (pix h w) - mean Y)) (hd : d = cnt)
    (n : Fin 8) (h w : Fin 64) :
    Ideal.div (x (ix4 n o h w) - Ideal.div (Ideal.hostReduceAdd hr x 0 (ix1 o)) (Ideal.ofBits .f32 1191182336#32))
        (Ideal.sqrt ((if 0 < d then Ideal.div (Ideal.hostReduceAdd hr sq 0 (ix1 o)) d else other)
          + Ideal.ofBits .f32 925353388#32)) * g + b
      = rNorm Y g b n (pix h w) := by
  rw [centred hr x o Y hY, hd, if_pos cnt_pos,
    sum_all hr sq o (fun n p => (Y n p - mean Y) * (Y n p - mean Y)) hq]
  rfl

variable (V : Valuation τ sig (Elt Ideal))

/-- The gain of the first normalization. -/
abbrev gain1 (o : Fin 256) : EReal := (V (Proc.devRef .tc main_arg3) : FVec Ideal S256 .f32) (ix1 o)

/-- The offset of the first normalization. -/
abbrev offs1 (o : Fin 256) : EReal := (V (Proc.devRef .tc main_arg4) : FVec Ideal S256 .f32) (ix1 o)

/-- The weight of the 1x1 product. -/
abbrev weight (o : Fin 256) (k : Fin 65) : EReal :=
  (V (Proc.devRef .tc main_arg5) : FVec Ideal S65x256x1x1 .f32) (ix4 k o 0 0)

/-- The bias of the 1x1 product. -/
abbrev bias2 (k : Fin 65) : EReal := (V (Proc.devRef .tc main_arg6) : FVec Ideal S65 .f32) (ix1 k)

/-- The gain of the second normalization. -/
abbrev gain2 (k : Fin 65) : EReal := (V (Proc.devRef .tc main_arg7) : FVec Ideal S65 .f32) (ix1 k)

/-- The offset of the second normalization. -/
abbrev offs2 (k : Fin 65) : EReal := (V (Proc.devRef .tc main_arg8) : FVec Ideal S65 .f32) (ix1 k)

/-- The 3x3 product with its bias, a channel. -/
def chan1 (o : Fin 256) : Chan := fun n p => conv (padded (image V n)) (tap V) p o + bias1 V o

/-- The 1x1 product with its bias, a channel. -/
def chan2 (k : Fin 65) : Chan := fun n p =>
  ∑ o, max (rNorm (chan1 V o) (gain1 V o) (offs1 V o) n p) 0 * weight V o k + bias2 V k

/-- The first channel's distances from its mean. -/
theorem centred1_at (n : Fin 8) (o : Fin 256) (h w : Fin 64) :
    (res_main_call1_v5 V : FVec Ideal S8x256x64x64 .f32) (ix4 n o h w) = chan1 V o n (pix h w) - mean (chan1 V o) := by
  have e := fun n h w => v25_at V n o h w
  unfold res_main_call1_v5
  clean_types
  generalize (res_main_v25 V : FVec Ideal S8x256x64x64 .f32) = x at e ⊢
  pointwise
  exact centred _ x o (chan1 V o) e n h w

/-- The first variance's divisor is the count. -/
theorem divisor1 : (res_main_call1_v8 V : FVec Ideal S_ .f32) ix0 = cnt := by
  unfold res_main_call1_v8
  clean_types
  pointwise
  rw [zero_word, sub_zero]
  rfl

/-- The second variance's divisor is the count. -/
theorem divisor2 : (res_main_call3_v8 V : FVec Ideal S_ .f32) ix0 = cnt := by
  unfold res_main_call3_v8
  clean_types
  pointwise
  rw [zero_word, sub_zero]
  rfl

/-- The 1x1 product of the rectified, normalized first product. -/
theorem v50_at (b : Fin 8) (k : Fin 65) (h w : Fin 64) : (res_main_v50 V : FVec Ideal S8x65x64x64 .f32) (ix4 b k h w)
    = chan2 V k b (pix h w) := by
  have e := fun o n h w => v25_at V n o h w
  have e' := fun o n h w => centred1_at V n o h w
  have e'' := divisor1 V
  unfold res_main_v50
  clean_types
  generalize (res_main_v25 V : FVec Ideal S8x256x64x64 .f32) = x at e ⊢
  generalize (res_main_call1_v5 V : FVec Ideal S8x256x64x64 .f32) = x' at e' ⊢
  generalize (res_main_call1_v8 V : FVec Ideal S_ .f32) = x'' at e'' ⊢
  pointwise
  refine congrArg (· + bias2 V k) (Finset.sum_congr rfl fun o _ => ?_)
  refine (mul_comm _ _).trans (congrArg (max · 0 * weight V o k) ?_)
  exact normed _ x _ _ _ _ _ o (chan1 V o) (e o)
    (fun n h w => congrArg₂ (fun a b : EReal => a * b) (e' o n h w) (e' o n h w)) e'' b h w

/-- The second channel's distances from its mean. -/
theorem centred2_at (n : Fin 8) (k : Fin 65) (h w : Fin 64) :
    (res_main_call3_v5 V : FVec Ideal S8x65x64x64 .f32) (ix4 n k h w) = chan2 V k n (pix h w) - mean (chan2 V k) := by
  have e := fun n h w => v50_at V n k h w
  unfold res_main_call3_v5
  clean_types
  generalize (res_main_v50 V : FVec Ideal S8x65x64x64 .f32) = x at e ⊢
  pointwise
  exact centred _ x k (chan2 V k) e n h w

end Cert.ReferenceIdeal.RefNorm
-- ==== Proof.RefResult.lean ====
/-
  What the reference leaves in its three results: the network per pixel and channel, the same laid out as one large
  image, and where that image reaches the bound.
-/
module

public import proofs.«01_k».proof.Proof.RefNorm

@[expose] public section

set_option maxRecDepth 16384

noncomputable section

open Idealize.ShloMosaic Idealize.ShloMosaic.TcCoe Idealize.SL.Sem Idealize.ShloMosaic.StableHlo

namespace Cert.ReferenceIdeal.RefResult

open Cert.ReferenceIdeal Cert.ReferenceIdeal.Gen Cert.ReferenceIdeal.Value Cert.Net Cert.ReferenceIdeal.RefConv
  Cert.ReferenceIdeal.RefNorm

variable (V : Valuation τ sig (Elt Ideal))

/-- The network at a pixel and channel. -/
def net (k : Fin 65) : Chan := rNorm (chan2 V k) (gain2 V k) (offs2 V k)

/-- The reference's first result, as its operations compose it. -/
def logits : FVec Ideal S8x65x64x64 .f32 :=
  addf (mulf (Host.divf (subf (res_main_v50 V) (broadcastInDim S8x65x64x64 ![0, 1, 2, 3] bcast_S1x65x1x1_S8x65x64x64_0_1_2_3 (Host.divf (broadcastInDim S1x65x1x1 ![1] bcast_S65_S1x65x1x1_1 (Host.reduceAdd (res_main_v50 V) (constant S_ .f32 0x00000000#32) reducesTo_S8x65x64x64_S65_d0_2_3 h_S_)) (broadcastInDim S1x65x1x1 ![] bcast_S_S1x65x1x1 (constant S_ .f32 0x47000000#32))))) (broadcastInDim S8x65x64x64 ![0, 1, 2, 3] bcast_S1x65x1x1_S8x65x64x64_0_1_2_3 (Host.sqrt (addf (select (broadcastInDim S1x65x1x1 ![] bcast_S_S1x65x1x1 (cmpf .ogt (res_main_call3_v8 V) (constant S_ .f32 0x00000000#32))) (Host.divf (broadcastInDim S1x65x1x1 ![1] bcast_S65_S1x65x1x1_1 (Host.reduceAdd (mulf (res_main_call3_v5 V) (res_main_call3_v5 V)) (constant S_ .f32 0x00000000#32) reducesTo_S8x65x64x64_S65_d0_2_3 h_S_)) (broadcastInDim S1x65x1x1 ![] bcast_S_S1x65x1x1 (res_main_call3_v8 V))) (broadcastInDim S1x65x1x1 ![] bcast_S_S1x65x1x1 (id (constant S_ .f32 0x7FC00000#32)))) (broadcastInDim S1x65x1x1 ![] bcast_S_S1x65x1x1 (constant S_ .f32 0x3727C5AC#32)))))) (broadcastInDim S8x65x64x64 ![0, 1, 2, 3] bcast_S1x65x1x1_S8x65x64x64_0_1_2_3 (broadcastInDim S1x65x1x1 ![1] bcast_S65_S1x65x1x1_1 (V (Proc.devRef .tc main_arg7))))) (broadcastInDim S8x65x64x64 ![0, 1, 2, 3] bcast_S1x65x1x1_S8x65x64x64_0_1_2_3 (broadcastInDim S1x65x1x1 ![1] bcast_S65_S1x65x1x1_1 (V (Proc.devRef .tc main_arg8))))

/-- The first result at an index. -/
theorem logits_at (n : Fin 8) (k : Fin 65) (h w : Fin 64) : logits V (ix4 n k h w) = net V k n (pix h w) := by
  have e := fun n h w => v50_at V n k h w
  have e' := fun n h w => centred2_at V n k h w
  have e'' := divisor2 V
  unfold logits
  clean_types
  generalize (res_main_v50 V : FVec Ideal S8x65x64x64 .f32) = x at e ⊢
  generalize (res_main_call3_v5 V : FVec Ideal S8x65x64x64 .f32) = x' at e' ⊢
  generalize (res_main_call3_v8 V : FVec Ideal S_ .f32) = x'' at e'' ⊢
  pointwise
  exact normed _ x _ _ _ _ _ k (chan2 V k) e
    (fun n h w => congrArg₂ (fun a b : EReal => a * b) (e' n h w) (e' n h w)) e'' n h w

/-- The first 64 channels as one large image, as the reference's operations compose it. -/
def large (x : FVec Ideal S8x65x64x64 .f32) : FVec Ideal S8x512x512 .f32 :=
  shapeCast _ (shapeCast _ (transpose S8x1x64x8x64x8 [0, 1, 4, 2, 5, 3] (shapeCast _ (extractStridedSlice S8x64x64x64 ![0, 0, 0, 0] x slices_S8x65x64x64_S8x64x64x64_0_0_0_0) shapeCasts_S8x64x64x64_S8x1x8x8x64x64) transposes_S8x1x8x8x64x64_S8x1x64x8x64x8_0_1_4_2_5_3) shapeCasts_S8x1x64x8x64x8_S8x1x512x512) shapeCasts_S8x1x512x512_S8x512x512

/-- The large image at an index: the channel is the place in the 8x8 cell, the pixel is the cell. -/
theorem large_at (x : FVec Ideal S8x65x64x64 .f32) (n : Fin 8) (r q : Fin 512) :
    large x (ix3 n r q) = x (ix4 n (cellChan r q) ⟨r.val / 8, by omega⟩ ⟨q.val / 8, by omega⟩) := by
  unfold large
  pointwise
  rfl

/-- The first result. -/
theorem res0 : logits V = fun y : S8x65x64x64.Idx => net V (y 1) (y 0) (pix (y 2) (y 3)) := by
  funext y
  obtain ⟨n, k, i, j, rfl⟩ : ∃ n k i j, y = ix4 n k i j := ⟨y 0, y 1, y 2, y 3, (ix4_eta y).symm⟩
  exact logits_at V n k i j

/-- The second result. -/
theorem res1 : large (logits V) = fun y : S8x512x512.Idx => net V (cellChan (y 1) (y 2)) (y 0) (cellPix (y 1) (y 2)) := by
  funext y
  obtain ⟨n, r, q, rfl⟩ : ∃ n r q, y = ix3 n r q := ⟨y 0, y 1, y 2, (ix3_eta y).symm⟩
  exact (large_at _ n r q).trans (logits_at V n _ _ _)

/-- The third result. -/
theorem res2 : extui 32 (cmpf .oge (large (logits V)) (broadcastInDim S8x512x512 ![] bcast_S_S8x512x512 (constant S_ .f32 0x3C75C28F#32))) natLt_1_32
    = fun y : S8x512x512.Idx => det (net V (cellChan (y 1) (y 2)) (y 0) (cellPix (y 1) (y 2))) := by
  rw [res1]
  rfl

end Cert.ReferenceIdeal.RefResult
-- ==== Proof.Equation.lean ====
/-
  The equation: under the precondition, and with equal arguments, the kernel's network and the reference's are equal at
  every pixel and channel.
-/
module

public import proofs.«01_k».proof.Proof.Value
public import proofs.«01_k».proof.Proof.Finite
public import proofs.«01_k».proof.Proof.RefResult

@[expose] public section

set_option maxRecDepth 16384

noncomputable section

open Idealize.ShloMosaic Idealize.ShloMosaic.TcCoe Idealize.SL.Sem Idealize.ShloMosaic.StableHlo

namespace Cert.Equation

open Cert.Net Cert.KernelIdeal

/-- An image of reals with a border of zeros is real. -/
def rpad (x : Fin 128 → Fin 64 → Fin 64 → ℝ) (i j : Fin 66) (k : Fin 128) : ℝ :=
  if h : (1 ≤ i.val ∧ i.val - 1 < 64) ∧ 1 ≤ j.val ∧ j.val - 1 < 64 then
    x k ⟨i.val - 1, h.1.2⟩ ⟨j.val - 1, h.2.2⟩ else 0

/-- The border of an image of reals, as extended reals. -/
theorem padded_coe (x : Fin 128 → Fin 64 → Fin 64 → ℝ) :
    padded (fun k i j => (x k i j : EReal)) = fun i j k => (rpad x i j k : EReal) := by
  funext i j k
  unfold padded rpad
  split_ifs <;> rfl

/-- The network of real arguments, as functions of the nine arrays: the kernel's and the reference's are equal. -/
theorem nets (x0 : FVec Ideal S8x128x64x64 .f32) (x1 : FVec Ideal S256x128x3x3 .f32) (x2 x3 x4 : FVec Ideal S256 .f32)
    (x5 : FVec Ideal S65x256x1x1 .f32) (x6 x7 x8 : FVec Ideal S65 .f32)
    (h : Cert.Pre_finite.fn (F := Ideal) x0 x1 x2 x3 x4 x5 x6 x7 x8 ix0 = 1#1) (k : Fin 65) (n : Fin 8) (p : Fin 4096) :
    netK (fun n => padded fun k i j => x0 (ix4 n k i j))
        (fun t k o => x1 (ix4 o k ⟨t.val / 3, by omega⟩ ⟨t.val % 3, by omega⟩)) (fun o => x3 (ix1 o)) (fun o => x4 (ix1 o))
        (fun o k => x5 (ix4 k o 0 0)) (fun k => x7 (ix1 k)) (fun k => x8 (ix1 k)) k n p
      = netR (fun n => padded fun k i j => x0 (ix4 n k i j))
        (fun t k o => x1 (ix4 o k ⟨t.val / 3, by omega⟩ ⟨t.val % 3, by omega⟩)) (fun o => x2 (ix1 o)) (fun o => x3 (ix1 o))
        (fun o => x4 (ix1 o)) (fun o k => x5 (ix4 k o 0 0)) (fun k => x6 (ix1 k)) (fun k => x7 (ix1 k))
        (fun k => x8 (ix1 k)) k n p := by
  obtain ⟨h0, h1, h2, h3, h4, h5, h6, h7⟩ := Cert.Finite.reals x0 x1 x2 x3 x4 x5 x6 x7 x8 h
  choose r0 e0 using h0
  choose r1 e1 using h1
  choose r2 e2 using h2
  choose r3 e3 using h3
  choose r4 e4 using h4
  choose r5 e5 using h5
  choose r6 e6 using h6
  choose r7 e7 using h7
  simp only [e0, e1, e2, e3, e4, e5, e6, e7, padded_coe]
  exact net_eq _ _ _ _ _ _ _ _ _ _ _ _

/-- With equal arguments under the precondition, the kernel's network is the reference's. -/
theorem net_eq_net (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hp : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = fun _ => 1#1)
    (a0 : m' ((c.tc : Thread ReferenceIdeal.nD ReferenceIdeal.τ).loc ReferenceIdeal.main_arg0) = m ((c : Thread nD τ).loc main_arg0))
    (a1 : m' ((c.tc : Thread ReferenceIdeal.nD ReferenceIdeal.τ).loc ReferenceIdeal.main_arg1) = m ((c : Thread nD τ).loc main_arg1))
    (a2 : m' ((c.tc : Thread ReferenceIdeal.nD ReferenceIdeal.τ).loc ReferenceIdeal.main_arg2) = m ((c : Thread nD τ).loc main_arg2))
    (a3 : m' ((c.tc : Thread ReferenceIdeal.nD ReferenceIdeal.τ).loc ReferenceIdeal.main_arg3) = m ((c : Thread nD τ).loc main_arg3))
    (a4 : m' ((c.tc : Thread ReferenceIdeal.nD ReferenceIdeal.τ).loc ReferenceIdeal.main_arg4) = m ((c : Thread nD τ).loc main_arg4))
    (a5 : m' ((c.tc : Thread ReferenceIdeal.nD ReferenceIdeal.τ).loc ReferenceIdeal.main_arg5) = m ((c : Thread nD τ).loc main_arg5))
    (a6 : m' ((c.tc : Thread ReferenceIdeal.nD ReferenceIdeal.τ).loc ReferenceIdeal.main_arg6) = m ((c : Thread nD τ).loc main_arg6))
    (a7 : m' ((c.tc : Thread ReferenceIdeal.nD ReferenceIdeal.τ).loc ReferenceIdeal.main_arg7) = m ((c : Thread nD τ).loc main_arg7))
    (a8 : m' ((c.tc : Thread ReferenceIdeal.nD ReferenceIdeal.τ).loc ReferenceIdeal.main_arg8) = m ((c : Thread nD τ).loc main_arg8))
    (k : Fin 65) (n : Fin 8) (p : Fin 4096) :
    ReferenceIdeal.RefResult.net (launchContents m' c) k n p = KernelIdeal.Value.net m c k n p := by
  have e := nets _ _ _ _ _ _ _ _ _ (congrFun hp ix0) k n p
  refine Eq.trans ?_ e.symm
  rw [← a0, ← a1, ← a2, ← a3, ← a4, ← a5, ← a6, ← a7, ← a8]
  rfl

end Cert.Equation
-- ==== Proof.lean ====
/-
  The proof of the certificate's claims: the frames of the three programs, that no operation of the kernel was replaced,
  and that the kernel's three results are the reference's when the arguments are finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_finite
public import proofs.«01_k».proof.Proof.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo Cert.Net

/-- The reference runs, leaves its arguments as they were and ends with every counter at zero: it declares none. -/
theorem frame_r (m : (ℓ : Loc Cert.ReferenceIdeal.nD Cert.ReferenceIdeal.τ Cert.ReferenceIdeal.sig) → Buf (Elt Ideal) ℓ)
    (g : Dev Cert.ReferenceIdeal.nD → PrngReg) (P : Prop) (_ : P) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0) :=
  (θ_run _ _ _).mono (fun r h => ⟨fun c => (h c).2.2.2, sem_eq_zero_of_no_sems (by decide) r.2⟩)
    (Cert.ReferenceIdeal.Value.run m g)

/-- The kernel and the reference, from equal finite arguments, end with equal results. -/
theorem algebraic : Cert.algebraic_KernelIdeal_ReferenceIdeal_pre_finite := by
  intro m g m' g' hp ha
  have e : ∀ (c : Dev Cert.KernelIdeal.nD) (k : Fin 65) (n : Fin 8) (p : Fin 4096),
      Cert.ReferenceIdeal.RefResult.net (launchContents m' c) k n p = Cert.KernelIdeal.Value.net m c k n p := by
    intro c
    obtain ⟨a0, a1, a2, a3, a4, a5, a6, a7, a8⟩ := ha c
    exact Cert.Equation.net_eq_net m m' c (hp c) a0 a1 a2 a3 a4 a5 a6 a7 a8
  refine ⟨fun c => Cert.KernelIdeal.Gen.W17 m g c Cert.KernelIdeal.main_v64,
    fun c => Cert.KernelIdeal.Gen.W17 m g c Cert.KernelIdeal.main_v63_1,
    fun c => Cert.KernelIdeal.Gen.W17 m g c Cert.KernelIdeal.main_v63_2, Cert.KernelIdeal.Run.run m g, ?_⟩
  refine (θ_run _ _ _).mono (fun r h c => ⟨?_, ?_, ?_, (h c).2.2.2⟩) (Cert.ReferenceIdeal.Value.run m' g')
  · refine ((h c).1.trans (Cert.ReferenceIdeal.RefResult.res0 (launchContents m' c))).trans
      (Eq.trans ?_ (Cert.KernelIdeal.Value.res0 m g c).symm)
    exact funext fun y => e c _ _ _
  · refine ((h c).2.1.trans (Cert.ReferenceIdeal.RefResult.res1 (launchContents m' c))).trans
      (Eq.trans ?_ (Cert.KernelIdeal.Value.res1 m g c).symm)
    exact funext fun y => e c _ _ _
  · refine ((h c).2.2.1.trans (Cert.ReferenceIdeal.RefResult.res2 (launchContents m' c))).trans
      (Eq.trans ?_ (Cert.KernelIdeal.Value.res2 m g c).symm)
    exact funext fun y => congrArg det (e c _ _ _)

/-- Every claim. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, fun m g h => frame_r m g _ h, fun m g h => frame_r m g _ h, trivial,
    algebraic⟩

end Cert.Proof

end
